-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S4x3x8192 : Shape := ⟨3, ![4, 3, 8192]⟩
abbrev S4x3x2048 : Shape := ⟨3, ![4, 3, 2048]⟩
abbrev S4x64x8192 : Shape := ⟨3, ![4, 64, 8192]⟩
abbrev S4x128x2048 : Shape := ⟨3, ![4, 128, 2048]⟩
abbrev S64x192 : Shape := ⟨2, ![64, 192]⟩
abbrev S64 : Shape := ⟨1, ![64]⟩
abbrev S_ : Shape := ⟨0, ![]⟩
abbrev S4x8192 : Shape := ⟨2, ![4, 8192]⟩
abbrev S4x8192x1 : Shape := ⟨3, ![4, 8192, 1]⟩
abbrev S4x2048 : Shape := ⟨2, ![4, 2048]⟩
abbrev S4x1x2048 : Shape := ⟨3, ![4, 1, 2048]⟩
abbrev S4x8192x2048 : Shape := ⟨3, ![4, 8192, 2048]⟩
abbrev S4x8192x4 : Shape := ⟨3, ![4, 8192, 4]⟩
abbrev S4x8192x3 : Shape := ⟨3, ![4, 8192, 3]⟩

class Facts : Prop where
  bcast_S_S4x3x8192 : S_.BroadcastsInDim S4x3x8192 (![] : Fin 0 → Fin S4x3x8192.rank)
  reducesTo_S4x3x8192_S_d0_1_2 : S4x3x8192.ReducesTo [0, 1, 2] S_
  h_S_ : 0 < S_.numel
  bcast_S_S4x3x2048 : S_.BroadcastsInDim S4x3x2048 (![] : Fin 0 → Fin S4x3x2048.rank)
  reducesTo_S4x3x2048_S_d0_1_2 : S4x3x2048.ReducesTo [0, 1, 2] S_
  bcast_S_S4x64x8192 : S_.BroadcastsInDim S4x64x8192 (![] : Fin 0 → Fin S4x64x8192.rank)
  reducesTo_S4x64x8192_S_d0_1_2 : S4x64x8192.ReducesTo [0, 1, 2] S_
  bcast_S_S4x128x2048 : S_.BroadcastsInDim S4x128x2048 (![] : Fin 0 → Fin S4x128x2048.rank)
  reducesTo_S4x128x2048_S_d0_1_2 : S4x128x2048.ReducesTo [0, 1, 2] S_
  bcast_S_S64x192 : S_.BroadcastsInDim S64x192 (![] : Fin 0 → Fin S64x192.rank)
  reducesTo_S64x192_S_d0_1 : S64x192.ReducesTo [0, 1] S_
  bcast_S_S64 : S_.BroadcastsInDim S64 (![] : Fin 0 → Fin S64.rank)
  reducesTo_S64_S_d0 : S64.ReducesTo [0] S_
  reducesTo_S4x3x8192_S4x8192_d1 : S4x3x8192.ReducesTo [1] S4x8192
  bcast_S4x8192_S4x8192x1_0_1 : S4x8192.BroadcastsInDim S4x8192x1 (![0, 1] : Fin 2 → Fin S4x8192x1.rank)
  reducesTo_S4x3x2048_S4x2048_d1 : S4x3x2048.ReducesTo [1] S4x2048
  bcast_S4x2048_S4x1x2048_0_2 : S4x2048.BroadcastsInDim S4x1x2048 (![0, 2] : Fin 2 → Fin S4x1x2048.rank)
  bcast_S4x8192x1_S4x8192x2048_0_1_2 : S4x8192x1.BroadcastsInDim S4x8192x2048 (![0, 1, 2] : Fin 3 → Fin S4x8192x2048.rank)
  bcast_S4x1x2048_S4x8192x2048_0_1_2 : S4x1x2048.BroadcastsInDim S4x8192x2048 (![0, 1, 2] : Fin 3 → Fin S4x8192x2048.rank)
  bcast_S_S4x8192x2048 : S_.BroadcastsInDim S4x8192x2048 (![] : Fin 0 → Fin S4x8192x2048.rank)
  sliceFits_S4x8192x2048_S4x8192x4 : S4x8192x2048.Slices (fun _ => 0) S4x8192x4
  slices_S4x8192x4_S4x8192x3_0_0_0 : S4x8192x4.Slices ![0, 0, 0] S4x8192x3
  slices_S4x8192x4_S4x8192x3_0_0_1 : S4x8192x4.Slices ![0, 0, 1] S4x8192x3
  reducesTo_S4x8192x3_S_d0_1_2 : S4x8192x3.ReducesTo [0, 1, 2] S_
  dot_S4x3x8192_S4x3x2048_S4x8192x2048_1_1_2_2_0_0_wf : DotDims.WF S4x3x8192 S4x3x2048 S4x8192x2048 [1] [1] [2] [2] [0] [0]

variable [Facts]

def dot_S4x3x8192_S4x3x2048_S4x8192x2048_1_1_2_2_0_0 : DotDims S4x3x8192 S4x3x2048 S4x8192x2048 where
  lhsContracting := [1]
  rhsContracting := [1]
  lhsNonContracting := [2]
  rhsNonContracting := [2]
  lhsBatch := [0]
  rhsBatch := [0]
  wf := dot_S4x3x8192_S4x3x2048_S4x8192x2048_1_1_2_2_0_0_wf
def fn_part2 {F : FTy → Type} [FloatOps F] (main_arg0 : FVec F S4x3x8192 .f32) (main_arg1 : FVec F S4x3x2048 .f32) (main_v29 : IVec S_ 1) (main_v32 : FVec F S4x8192x1 .f32) (main_v33 : FVec F S4x3x2048 .f32) : IVec S_ 1 :=
  let main_cst_12 : FVec F S_ .f32 := constant S_ .f32 0x00000000#32
  let main_v34 : FVec F S4x2048 .f32 := (fun x v => Host.reduceAdd x v reducesTo_S4x3x2048_S4x2048_d1 h_S_) main_v33 main_cst_12
  let main_v35 : FVec F S4x1x2048 .f32 := broadcastInDim S4x1x2048 ![0, 2] bcast_S4x2048_S4x1x2048_0_2 main_v34
  let main_v36 : FVec F S4x8192x2048 .f32 := broadcastInDim S4x8192x2048 ![0, 1, 2] bcast_S4x8192x1_S4x8192x2048_0_1_2 main_v32
  let main_v37 : FVec F S4x8192x2048 .f32 := broadcastInDim S4x8192x2048 ![0, 1, 2] bcast_S4x1x2048_S4x8192x2048_0_1_2 main_v35
  let main_v38 : FVec F S4x8192x2048 .f32 := addf main_v36 main_v37
  let main_v39 : FVec F S4x8192x2048 .f32 := (fun l r => Host.dotGeneral dot_S4x3x8192_S4x3x2048_S4x8192x2048_1_1_2_2_0_0 none l r) main_arg0 main_arg1
  let main_cst_13 : FVec F S_ .f32 := constant S_ .f32 0x40000000#32
  let main_v40 : FVec F S4x8192x2048 .f32 := broadcastInDim S4x8192x2048 ![] bcast_S_S4x8192x2048 main_cst_13
  let main_v41 : FVec F S4x8192x2048 .f32 := mulf main_v40 main_v39
  let main_v42 : FVec F S4x8192x2048 .f32 := subf main_v38 main_v41
  let main_v43 : FVec F S4x8192x2048 .f32 := Host.negf main_v42
  let main_values : FVec F S4x8192x4 .f32 := (fun x => (Host.topK S4x8192x4 2 (FloatOps.cmpfTotal .gt) x sliceFits_S4x8192x2048_S4x8192x4).1) main_v43
  let main_indices : IVec S4x8192x4 32 := (fun x => (Host.topK S4x8192x4 2 (FloatOps.cmpfTotal .gt) x sliceFits_S4x8192x2048_S4x8192x4).2) main_v43
  let main_v44 : FVec F S4x8192x3 .f32 := (extractStridedSlice S4x8192x3 ![0, 0, 0] · slices_S4x8192x4_S4x8192x3_0_0_0) main_values
  let main_v45 : FVec F S4x8192x3 .f32 := (extractStridedSlice S4x8192x3 ![0, 0, 1] · slices_S4x8192x4_S4x8192x3_0_0_1) main_values
  let main_v46 : IVec S4x8192x3 1 := cmpf .ogt main_v44 main_v45
  let main_c_14 : IVec S_ 1 := constantI S_ 1 1#1
  let main_v47 : IVec S_ 1 := (fun x v => Host.reduce IntOp.andi x v reducesTo_S4x8192x3_S_d0_1_2 h_S_) main_v46 main_c_14
  let main_v48 : IVec S_ 1 := andi main_v29 main_v47
  main_v48

def fn_part1 {F : FTy → Type} [FloatOps F] (main_arg0 : FVec F S4x3x8192 .f32) (main_arg1 : FVec F S4x3x2048 .f32) (main_arg4 : FVec F S64x192 .f32) (main_arg5 : FVec F S64 .f32) (main_v14 : IVec S_ 1) (main_v15 : FVec F S4x128x2048 .f32) (main_cst_5 : FVec F S_ .f32) : IVec S_ 1 :=
  let main_v16 : FVec F S4x128x2048 .f32 := broadcastInDim S4x128x2048 ![] bcast_S_S4x128x2048 main_cst_5
  let main_v17 : IVec S4x128x2048 1 := cmpf .olt main_v15 main_v16
  let main_c_6 : IVec S_ 1 := constantI S_ 1 1#1
  let main_v18 : IVec S_ 1 := (fun x v => Host.reduce IntOp.andi x v reducesTo_S4x128x2048_S_d0_1_2 h_S_) main_v17 main_c_6
  let main_v19 : IVec S_ 1 := andi main_v14 main_v18
  let main_v20 : FVec F S64x192 .f32 := Host.absf main_arg4
  let main_cst_7 : FVec F S_ .f32 := constant S_ .f32 0x7F800000#32
  let main_v21 : FVec F S64x192 .f32 := broadcastInDim S64x192 ![] bcast_S_S64x192 main_cst_7
  let main_v22 : IVec S64x192 1 := cmpf .olt main_v20 main_v21
  let main_c_8 : IVec S_ 1 := constantI S_ 1 1#1
  let main_v23 : IVec S_ 1 := (fun x v => Host.reduce IntOp.andi x v reducesTo_S64x192_S_d0_1 h_S_) main_v22 main_c_8
  let main_v24 : IVec S_ 1 := andi main_v19 main_v23
  let main_v25 : FVec F S64 .f32 := Host.absf main_arg5
  let main_cst_9 : FVec F S_ .f32 := constant S_ .f32 0x7F800000#32
  let main_v26 : FVec F S64 .f32 := broadcastInDim S64 ![] bcast_S_S64 main_cst_9
  let main_v27 : IVec S64 1 := cmpf .olt main_v25 main_v26
  let main_c_10 : IVec S_ 1 := constantI S_ 1 1#1
  let main_v28 : IVec S_ 1 := (fun x v => Host.reduce IntOp.andi x v reducesTo_S64_S_d0 h_S_) main_v27 main_c_10
  let main_v29 : IVec S_ 1 := andi main_v24 main_v28
  let main_v30 : FVec F S4x3x8192 .f32 := mulf main_arg0 main_arg0
  let main_cst_11 : FVec F S_ .f32 := constant S_ .f32 0x00000000#32
  let main_v31 : FVec F S4x8192 .f32 := (fun x v => Host.reduceAdd x v reducesTo_S4x3x8192_S4x8192_d1 h_S_) main_v30 main_cst_11
  let main_v32 : FVec F S4x8192x1 .f32 := broadcastInDim S4x8192x1 ![0, 1] bcast_S4x8192_S4x8192x1_0_1 main_v31
  let main_v33 : FVec F S4x3x2048 .f32 := mulf main_arg1 main_arg1
  fn_part2 (F := F) main_arg0 main_arg1 main_v29 main_v32 main_v33

def fn {F : FTy → Type} [FloatOps F] (main_arg0 : FVec F S4x3x8192 .f32) (main_arg1 : FVec F S4x3x2048 .f32) (main_arg2 : FVec F S4x64x8192 .f32) (main_arg3 : FVec F S4x128x2048 .f32) (main_arg4 : FVec F S64x192 .f32) (main_arg5 : FVec F S64 .f32) (main_arg6 : FVec F S64 .f32) : IVec S_ 1 :=
  let main_v0 : FVec F S4x3x8192 .f32 := Host.absf main_arg0
  let main_cst : FVec F S_ .f32 := constant S_ .f32 0x7F800000#32
  let main_v1 : FVec F S4x3x8192 .f32 := broadcastInDim S4x3x8192 ![] bcast_S_S4x3x8192 main_cst
  let main_v2 : IVec S4x3x8192 1 := cmpf .olt main_v0 main_v1
  let main_c : IVec S_ 1 := constantI S_ 1 1#1
  let main_v3 : IVec S_ 1 := (fun x v => Host.reduce IntOp.andi x v reducesTo_S4x3x8192_S_d0_1_2 h_S_) main_v2 main_c
  let main_c_0 : IVec S_ 1 := constantI S_ 1 1#1
  let main_v4 : IVec S_ 1 := andi main_c_0 main_v3
  let main_v5 : FVec F S4x3x2048 .f32 := Host.absf main_arg1
  let main_cst_1 : FVec F S_ .f32 := constant S_ .f32 0x7F800000#32
  let main_v6 : FVec F S4x3x2048 .f32 := broadcastInDim S4x3x2048 ![] bcast_S_S4x3x2048 main_cst_1
  let main_v7 : IVec S4x3x2048 1 := cmpf .olt main_v5 main_v6
  let main_c_2 : IVec S_ 1 := constantI S_ 1 1#1
  let main_v8 : IVec S_ 1 := (fun x v => Host.reduce IntOp.andi x v reducesTo_S4x3x2048_S_d0_1_2 h_S_) main_v7 main_c_2
  let main_v9 : IVec S_ 1 := andi main_v4 main_v8
  let main_v10 : FVec F S4x64x8192 .f32 := Host.absf main_arg2
  let main_cst_3 : FVec F S_ .f32 := constant S_ .f32 0x7F800000#32
  let main_v11 : FVec F S4x64x8192 .f32 := broadcastInDim S4x64x8192 ![] bcast_S_S4x64x8192 main_cst_3
  let main_v12 : IVec S4x64x8192 1 := cmpf .olt main_v10 main_v11
  let main_c_4 : IVec S_ 1 := constantI S_ 1 1#1
  let main_v13 : IVec S_ 1 := (fun x v => Host.reduce IntOp.andi x v reducesTo_S4x64x8192_S_d0_1_2 h_S_) main_v12 main_c_4
  let main_v14 : IVec S_ 1 := andi main_v9 main_v13
  let main_v15 : FVec F S4x128x2048 .f32 := Host.absf main_arg3
  let main_cst_5 : FVec F S_ .f32 := constant S_ .f32 0x7F800000#32
  fn_part1 (F := F) main_arg0 main_arg1 main_arg4 main_arg5 main_v14 main_v15 main_cst_5
-- ==== Kernel.lean ====
abbrev S4x3x8192 : Shape := ⟨3, ![4, 3, 8192]⟩
abbrev S4x3x2048 : Shape := ⟨3, ![4, 3, 2048]⟩
abbrev S4x64x8192 : Shape := ⟨3, ![4, 64, 8192]⟩
abbrev S4x128x2048 : Shape := ⟨3, ![4, 128, 2048]⟩
abbrev S64x192 : Shape := ⟨2, ![64, 192]⟩
abbrev S64 : Shape := ⟨1, ![64]⟩
abbrev S4x2048x3 : Shape := ⟨3, ![4, 2048, 3]⟩
abbrev S64x1 : Shape := ⟨2, ![64, 1]⟩
abbrev S1x3x2048 : Shape := ⟨3, ![1, 3, 2048]⟩
abbrev S1x2048x3 : Shape := ⟨3, ![1, 2048, 3]⟩
abbrev S1x64x2048 : Shape := ⟨3, ![1, 64, 2048]⟩
abbrev S1x128x2048 : Shape := ⟨3, ![1, 128, 2048]⟩
abbrev S72x2048 : Shape := ⟨2, ![72, 2048]⟩
abbrev S64x128 : Shape := ⟨2, ![64, 128]⟩
abbrev S128x2048 : Shape := ⟨2, ![128, 2048]⟩
abbrev S64x2048 : Shape := ⟨2, ![64, 2048]⟩
abbrev S8x2048 : Shape := ⟨2, ![8, 2048]⟩
abbrev S3x2048 : Shape := ⟨2, ![3, 2048]⟩
abbrev S2048x3 : Shape := ⟨2, ![2048, 3]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S64x64 : Shape := ⟨2, ![64, 64]⟩
abbrev S_ : Shape := ⟨0, ![]⟩
abbrev S1 : Shape := ⟨1, ![1]⟩

abbrev nBuf : Space → Nat
  | .hbm => 16
  | .vmem => 22
  | .smem => 1
  | _ => 0

abbrev bufTy : (tb : Table) → Fin (tcTables nBuf tb) → BufTy
  | .hbm, ⟨0, _⟩ => ⟨S4x3x8192, .f32⟩
  | .hbm, ⟨1, _⟩ => ⟨S4x3x2048, .f32⟩
  | .hbm, ⟨2, _⟩ => ⟨S4x64x8192, .f32⟩
  | .hbm, ⟨3, _⟩ => ⟨S4x128x2048, .f32⟩
  | .hbm, ⟨4, _⟩ => ⟨S64x192, .f32⟩
  | .hbm, ⟨5, _⟩ => ⟨S64, .f32⟩
  | .hbm, ⟨6, _⟩ => ⟨S64, .f32⟩
  | .hbm, ⟨7, _⟩ => ⟨S4x2048x3, .f32⟩
  | .hbm, ⟨8, _⟩ => ⟨S4x64x8192, .f32⟩
  | .hbm, ⟨9, _⟩ => ⟨S64x1, .f32⟩
  | .hbm, ⟨10, _⟩ => ⟨S64x1, .f32⟩
  | .hbm, ⟨11, _⟩ => ⟨S_, .f32⟩
  | .hbm, ⟨12, _⟩ => ⟨S1, .f32⟩
  | .hbm, ⟨13, _⟩ => ⟨S64x1, .f32⟩
  | .hbm, ⟨14, _⟩ => ⟨S64x1, .f32⟩
  | .hbm, ⟨15, _⟩ => ⟨S4x64x8192, .f32⟩
  | .local _ .vmem, ⟨0, _⟩ => ⟨S1x3x2048, .f32⟩
  | .local _ .vmem, ⟨1, _⟩ => ⟨S1x3x2048, .f32⟩
  | .local _ .vmem, ⟨2, _⟩ => ⟨S1x2048x3, .f32⟩
  | .local _ .vmem, ⟨3, _⟩ => ⟨S1x2048x3, .f32⟩
  | .local _ .vmem, ⟨4, _⟩ => ⟨S1x64x2048, .f32⟩
  | .local _ .vmem, ⟨5, _⟩ => ⟨S1x64x2048, .f32⟩
  | .local _ .vmem, ⟨6, _⟩ => ⟨S1x128x2048, .f32⟩
  | .local _ .vmem, ⟨7, _⟩ => ⟨S1x128x2048, .f32⟩
  | .local _ .vmem, ⟨8, _⟩ => ⟨S64x192, .f32⟩
  | .local _ .vmem, ⟨9, _⟩ => ⟨S1x64x2048, .f32⟩
  | .local _ .vmem, ⟨10, _⟩ => ⟨S1x64x2048, .f32⟩
  | .local _ .vmem, ⟨11, _⟩ => ⟨S64x1, .f32⟩
  | .local _ .vmem, ⟨12, _⟩ => ⟨S64x1, .f32⟩
  | .local _ .vmem, ⟨13, _⟩ => ⟨S72x2048, .f32⟩
  | .local _ .vmem, ⟨14, _⟩ => ⟨S1x64x2048, .f32⟩
  | .local _ .vmem, ⟨15, _⟩ => ⟨S1x64x2048, .f32⟩
  | .local _ .vmem, ⟨16, _⟩ => ⟨S64x1, .f32⟩
  | .local _ .vmem, ⟨17, _⟩ => ⟨S64x1, .f32⟩
  | .local _ .vmem, ⟨18, _⟩ => ⟨S64x1, .f32⟩
  | .local _ .vmem, ⟨19, _⟩ => ⟨S64x1, .f32⟩
  | .local _ .vmem, ⟨20, _⟩ => ⟨S1x64x2048, .f32⟩
  | .local _ .vmem, ⟨21, _⟩ => ⟨S1x64x2048, .f32⟩
  | .local _ .smem, ⟨0, _⟩ => ⟨S1, .f32⟩
  | _, _ => ⟨S4x3x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S64x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .smem S1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x64x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceIdeal.lean ====
abbrev S4x3x8192 : Shape := ⟨3, ![4, 3, 8192]⟩
abbrev S4x3x2048 : Shape := ⟨3, ![4, 3, 2048]⟩
abbrev S4x64x8192 : Shape := ⟨3, ![4, 64, 8192]⟩
abbrev S4x128x2048 : Shape := ⟨3, ![4, 128, 2048]⟩
abbrev S64x192 : Shape := ⟨2, ![64, 192]⟩
abbrev S64 : Shape := ⟨1, ![64]⟩
abbrev S_ : Shape := ⟨0, ![]⟩
abbrev S4x8192 : Shape := ⟨2, ![4, 8192]⟩
abbrev S4x8192x1 : Shape := ⟨3, ![4, 8192, 1]⟩
abbrev S4x2048 : Shape := ⟨2, ![4, 2048]⟩
abbrev S4x1x2048 : Shape := ⟨3, ![4, 1, 2048]⟩
abbrev S4x8192x2048 : Shape := ⟨3, ![4, 8192, 2048]⟩
abbrev S4x8192x3 : Shape := ⟨3, ![4, 8192, 3]⟩
abbrev S4x8192x3x1 : Shape := ⟨4, ![4, 8192, 3, 1]⟩
abbrev S1 : Shape := ⟨1, ![1]⟩
abbrev S1x1x1x1 : Shape := ⟨4, ![1, 1, 1, 1]⟩
abbrev S4x128x8192x3 : Shape := ⟨4, ![4, 128, 8192, 3]⟩
abbrev S4x1x8192x3 : Shape := ⟨4, ![4, 1, 8192, 3]⟩
abbrev S4x128x8192 : Shape := ⟨3, ![4, 128, 8192]⟩
abbrev S4x192x8192 : Shape := ⟨3, ![4, 192, 8192]⟩
abbrev S4x8192x64 : Shape := ⟨3, ![4, 8192, 64]⟩
abbrev S1x64x1 : Shape := ⟨3, ![1, 64, 1]⟩

abbrev nBuf : Space → Nat
  | .hbm => 123
  | .vmem => 0
  | .smem => 0
  | _ => 0

abbrev bufTy : (tb : Table) → Fin (tcTables nBuf tb) → BufTy
  | .hbm, ⟨0, _⟩ => ⟨S4x3x8192, .f32⟩
  | .hbm, ⟨1, _⟩ => ⟨S4x3x2048, .f32⟩
  | .hbm, ⟨2, _⟩ => ⟨S4x64x8192, .f32⟩
  | .hbm, ⟨3, _⟩ => ⟨S4x128x2048, .f32⟩
  | .hbm, ⟨4, _⟩ => ⟨S64x192, .f32⟩
  | .hbm, ⟨5, _⟩ => ⟨S64, .f32⟩
  | .hbm, ⟨6, _⟩ => ⟨S64, .f32⟩
  | .hbm, ⟨7, _⟩ => ⟨S4x3x8192, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S4x3x2048, .f32⟩
  | .hbm, ⟨12, _⟩ => ⟨S_, .f32⟩
  | .hbm, ⟨13, _⟩ => ⟨S4x2048, .f32⟩
  | .hbm, ⟨14, _⟩ => ⟨S4x1x2048, .f32⟩
  | .hbm, ⟨15, _⟩ => ⟨S4x8192x2048, .f32⟩
  | .hbm, ⟨16, _⟩ => ⟨S4x8192x2048, .f32⟩
  | .hbm, ⟨17, _⟩ => ⟨S4x8192x2048, .f32⟩
  | .hbm, ⟨18, _⟩ => ⟨S4x8192x2048, .f32⟩
  | .hbm, ⟨19, _⟩ => ⟨S_, .f32⟩
  | .hbm, ⟨20, _⟩ => ⟨S4x8192x2048, .f32⟩
  | .hbm, ⟨21, _⟩ => ⟨S4x8192x2048, .f32⟩
  | .hbm, ⟨22, _⟩ => ⟨S4x8192x2048, .f32⟩
  | .hbm, ⟨23, _⟩ => ⟨S4x8192x2048, .f32⟩
  | .hbm, ⟨24, _⟩ => ⟨S4x8192x3, .f32⟩
  | .hbm, ⟨25, _⟩ => ⟨S4x8192x3, .i32⟩
  | .hbm, ⟨26, _⟩ => ⟨S4x8192x3, .f32⟩
  | .hbm, ⟨27, _⟩ => ⟨S_, .f32⟩
  | .hbm, ⟨28, _⟩ => ⟨S4x8192x3, .f32⟩
  | .hbm, ⟨29, _⟩ => ⟨S4x8192x3, .f32⟩
  | .hbm, ⟨30, _⟩ => ⟨S_, .i32⟩
  | .hbm, ⟨31, _⟩ => ⟨S4x8192x3, .i32⟩
  | .hbm, ⟨32, _⟩ => ⟨S4x8192x3, .i1⟩
  | .hbm, ⟨33, _⟩ => ⟨S_, .i32⟩
  | .hbm, ⟨34, _⟩ => ⟨S4x8192x3, .i32⟩
  | .hbm, ⟨35, _⟩ => ⟨S4x8192x3, .i32⟩
  | .hbm, ⟨36, _⟩ => ⟨S4x8192x3, .i32⟩
  | .hbm, ⟨37, _⟩ => ⟨S4x8192x3x1, .i32⟩
  | .hbm, ⟨38, _⟩ => ⟨S1, .i32⟩
  | .hbm, ⟨39, _⟩ => ⟨S_, .i32⟩
  | .hbm, ⟨40, _⟩ => ⟨S4x8192x3x1, .i32⟩
  | .hbm, ⟨41, _⟩ => ⟨S4x8192x3x1, .i1⟩
  | .hbm, ⟨42, _⟩ => ⟨S1x1x1x1, .i32⟩
  | .hbm, ⟨43, _⟩ => ⟨S4x8192x3x1, .i32⟩
  | .hbm, ⟨44, _⟩ => ⟨S4x8192x3x1, .i1⟩
  | .hbm, ⟨45, _⟩ => ⟨S4x8192x3x1, .i1⟩
  | .hbm, ⟨46, _⟩ => ⟨S_, .i1⟩
  | .hbm, ⟨47, _⟩ => ⟨S4x8192x3, .i1⟩
  | .hbm, ⟨48, _⟩ => ⟨S4x128x8192x3, .f32⟩
  | .hbm, ⟨49, _⟩ => ⟨S4x128x8192x3, .i1⟩
  | .hbm, ⟨50, _⟩ => ⟨S_, .f32⟩
  | .hbm, ⟨51, _⟩ => ⟨S4x128x8192x3, .f32⟩
  | .hbm, ⟨52, _⟩ => ⟨S4x128x8192x3, .f32⟩
  | .hbm, ⟨53, _⟩ => ⟨S_, .f32⟩
  | .hbm, ⟨54, _⟩ => ⟨S4x8192x3, .f32⟩
  | .hbm, ⟨55, _⟩ => ⟨S4x8192x3, .f32⟩
  | .hbm, ⟨56, _⟩ => ⟨S_, .f32⟩
  | .hbm, ⟨57, _⟩ => ⟨S4x8192x3, .f32⟩
  | .hbm, ⟨58, _⟩ => ⟨S4x8192x3, .f32⟩
  | .hbm, ⟨59, _⟩ => ⟨S_, .f32⟩
  | .hbm, ⟨60, _⟩ => ⟨S4x8192, .f32⟩
  | .hbm, ⟨61, _⟩ => ⟨S4x8192x1, .f32⟩
  | .hbm, ⟨62, _⟩ => ⟨S4x8192x3, .f32⟩
  | .hbm, ⟨63, _⟩ => ⟨S4x8192x3, .f32⟩
  | .hbm, ⟨64, _⟩ => ⟨S4x1x8192x3, .f32⟩
  | .hbm, ⟨65, _⟩ => ⟨S4x128x8192x3, .f32⟩
  | .hbm, ⟨66, _⟩ => ⟨S4x128x8192x3, .f32⟩
  | .hbm, ⟨67, _⟩ => ⟨S_, .f32⟩
  | .hbm, ⟨68, _⟩ => ⟨S4x128x8192, .f32⟩
  | .hbm, ⟨69, _⟩ => ⟨S4x192x8192, .f32⟩
  | .hbm, ⟨70, _⟩ => ⟨S4x8192x64, .f32⟩
  | .hbm, ⟨71, _⟩ => ⟨S4x64x8192, .f32⟩
  | .hbm, ⟨72, _⟩ => ⟨S_, .f32⟩
  | .hbm, ⟨73, _⟩ => ⟨S64, .f32⟩
  | .hbm, ⟨74, _⟩ => ⟨S1x64x1, .f32⟩
  | .hbm, ⟨75, _⟩ => ⟨S_, .f32⟩
  | .hbm, ⟨76, _⟩ => ⟨S1x64x1, .f32⟩
  | .hbm, ⟨77, _⟩ => ⟨S1x64x1, .f32⟩
  | .hbm, ⟨78, _⟩ => ⟨S_, .i32⟩
  | .hbm, ⟨79, _⟩ => ⟨S_, .f32⟩
  | .hbm, ⟨80, _⟩ => ⟨S64, .f32⟩
  | .hbm, ⟨81, _⟩ => ⟨S1x64x1, .f32⟩
  | .hbm, ⟨82, _⟩ => ⟨S_, .f32⟩
  | .hbm, ⟨83, _⟩ => ⟨S1x64x1, .f32⟩
  | .hbm, ⟨84, _⟩ => ⟨S1x64x1, .f32⟩
  | .hbm, ⟨85, _⟩ => ⟨S4x64x8192, .f32⟩
  | .hbm, ⟨86, _⟩ => ⟨S4x64x8192, .f32⟩
  | .hbm, ⟨87, _⟩ => ⟨S4x64x8192, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S64, .f32⟩
  | .hbm, ⟨93, _⟩ => ⟨S1x64x1, .f32⟩
  | .hbm, ⟨94, _⟩ => ⟨S1x64x1, .f32⟩
  | .hbm, ⟨95, _⟩ => ⟨S1x64x1, .f32⟩
  | .hbm, ⟨96, _⟩ => ⟨S_, .f32⟩
  | .hbm, ⟨97, _⟩ => ⟨S_, .i1⟩
  | .hbm, ⟨98, _⟩ => ⟨S_, .f32⟩
  | .hbm, ⟨99, _⟩ => ⟨S_, .f32⟩
  | .hbm, ⟨100, _⟩ => ⟨S1x64x1, .f32⟩
  | .hbm, ⟨101, _⟩ => ⟨S1x64x1, .f32⟩
  | .hbm, ⟨102, _⟩ => ⟨S1x64x1, .f32⟩
  | .hbm, ⟨103, _⟩ => ⟨S4x64x8192, .f32⟩
  | .hbm, ⟨104, _⟩ => ⟨S4x64x8192, .f32⟩
  | .hbm, ⟨105, _⟩ => ⟨S4x64x8192, .f32⟩
  | .hbm, ⟨106, _⟩ => ⟨S4x64x8192, .f32⟩
  | .hbm, ⟨107, _⟩ => ⟨S_, .f32⟩
  | .hbm, ⟨108, _⟩ => ⟨S1x64x1, .f32⟩
  | .hbm, ⟨109, _⟩ => ⟨S1x64x1, .f32⟩
  | .hbm, ⟨110, _⟩ => ⟨S1x64x1, .f32⟩
  | .hbm, ⟨111, _⟩ => ⟨S4x64x8192, .f32⟩
  | .hbm, ⟨112, _⟩ => ⟨S4x64x8192, .f32⟩
  | .hbm, ⟨113, _⟩ => ⟨S1x64x1, .f32⟩
  | .hbm, ⟨114, _⟩ => ⟨S4x64x8192, .f32⟩
  | .hbm, ⟨115, _⟩ => ⟨S4x64x8192, .f32⟩
  | .hbm, ⟨116, _⟩ => ⟨S_, .f32⟩
  | .hbm, ⟨117, _⟩ => ⟨S4x64x8192, .f32⟩
  | .hbm, ⟨118, _⟩ => ⟨S4x64x8192, .i1⟩
  | .hbm, ⟨119, _⟩ => ⟨S_, .f32⟩
  | .hbm, ⟨120, _⟩ => ⟨S4x64x8192, .f32⟩
  | .hbm, ⟨121, _⟩ => ⟨S4x64x8192, .f32⟩
  | .hbm, ⟨122, _⟩ => ⟨S4x64x8192, .f32⟩
  | _, _ => ⟨S4x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_values : Ref sig .tc := ⟨.hbm, 24, rfl⟩
abbrev main_indices : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v17 : Ref sig .tc := ⟨.hbm, 52, rfl⟩
abbrev main_cst_3 : Ref sig .tc := ⟨.hbm, 53, rfl⟩
abbrev main_v18 : Ref sig .tc := ⟨.hbm, 54, rfl⟩
abbrev main_v19 : Ref sig .tc := ⟨.hbm, 55, rfl⟩
abbrev main_cst_4 : Ref sig .tc := ⟨.hbm, 56, rfl⟩
abbrev main_v20 : Ref sig .tc := ⟨.hbm, 57, rfl⟩
abbrev main_v21 : Ref sig .tc := ⟨.hbm, 58, rfl⟩
abbrev main_cst_5 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_6 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_7 : Ref sig .tc := ⟨.hbm, 72, rfl⟩
abbrev main_v33 : Ref sig .tc := ⟨.hbm, 73, rfl⟩
abbrev main_v34 : Ref sig .tc := ⟨.hbm, 74, rfl⟩
abbrev main_cst_8 : Ref sig .tc := ⟨.hbm, 75, rfl⟩
abbrev main_v35 : Ref sig .tc := ⟨.hbm, 76, rfl⟩
abbrev main_v36 : Ref sig .tc := ⟨.hbm, 77, rfl⟩
abbrev main_c : Ref sig .tc := ⟨.hbm, 78, rfl⟩
abbrev main_call1_cst : Ref sig .tc := ⟨.hbm, 79, rfl⟩
abbrev main_call1_v0 : Ref sig .tc := ⟨.hbm, 80, rfl⟩
abbrev main_call1_v1 : Ref sig .tc := ⟨.hbm, 81, rfl⟩
abbrev main_call1_cst_0 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_v7 : Ref sig .tc := ⟨.hbm, 88, rfl⟩
abbrev main_call1_cst_1 : Ref sig .tc := ⟨.hbm, 89, rfl⟩
abbrev main_call1_v8 : Ref sig .tc := ⟨.hbm, 90, rfl⟩
abbrev main_call1_cst_2 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_v12 : Ref sig .tc := ⟨.hbm, 95, rfl⟩
abbrev main_call1_cst_3 : Ref sig .tc := ⟨.hbm, 96, rfl⟩
abbrev main_call1_v13 : Ref sig .tc := ⟨.hbm, 97, rfl⟩
abbrev main_call1_cst_4 : Ref sig .tc := ⟨.hbm, 98, rfl⟩
abbrev main_call1_call0_v0 : Ref sig .tc := ⟨.hbm, 99, rfl⟩
abbrev main_call1_call0_v1 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_cst_9 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_cst_10 : Ref sig .tc := ⟨.hbm, 116, rfl⟩
abbrev main_v51 : Ref sig .tc := ⟨.hbm, 117, rfl⟩
abbrev main_v52 : Ref sig .tc := ⟨.hbm, 118, rfl⟩
abbrev main_cst_11 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩

abbrev nD : Nat := 1
abbrev τ : Topo := Topo.v7x

variable {F : FTy → Type} [FloatOps F]
-- ==== Proof.KnnBody.lean ====
/- The first call's body, run once on whole blocks: what each of its three kinds of grid point leaves in the
   output blocks and in the scratch that holds the projected sparse features.

   The body has two conditionals. The first refills the scratch (the first point of a batch), the second clears the
   two running sums (the first point of the grid). So a point is the first of the grid (both taken), the first of
   a later batch (the first taken) or neither. Each kind's run is stated with the contents it leaves written out. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.ValueKit
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## When the conditionals are taken -/

/-- The condition of the first conditional, at grid coordinates `i`. -/
abbrev newBatch (i : grid0.Coords) : Prop :=
  (Scalar.cmpi .ne (Scalar.extui (Scalar.cmpi .eq (BitVec.ofNat 32 (i 1).val) 0#32)) 0#32) = 1#1

/-- The condition of the second conditional. -/
abbrev newGrid (i : grid0.Coords) : Prop :=
  (Scalar.cmpi .ne (Scalar.extui (Scalar.andi (Scalar.cmpi .eq (BitVec.ofNat 32 (i 0).val) 0#32)
    (Scalar.cmpi .eq (BitVec.ofNat 32 (i 1).val) 0#32))) 0#32) = 1#1

/-- The first conditional is taken at the first point of each batch. -/
theorem newBatch_iff : ∀ t : Fin cfg0.N, newBatch (grid0.coords t) ↔ t.val % 4 = 0 :=
  (fun t => by
    have ht : t.val < 16 := Nat.lt_of_lt_of_eq t.isLt N_0
    have e1 : (grid0.coords t 1).val = t.val / 1 % 4 := Pipeline.Grid.coords_val t 1 (by decide) rfl
    simp only [newBatch, e1]
    word_cmp
   : ∀ t : Fin grid0.N, newBatch (grid0.coords t) ↔ t.val % 4 = 0)

/-- The second conditional is taken at the first point of the grid. -/
theorem newGrid_iff : ∀ t : Fin cfg0.N, newGrid (grid0.coords t) ↔ t.val = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [newGrid, e0, e1]
    word_cmp
   : ∀ t : Fin grid0.N, newGrid (grid0.coords t) ↔ t.val = 0)

/-! ## What a point computes -/

/-- The scratch after it is refilled: its two stores, the projected sparse features in rows 0 to 63 and ones in rows
    64 to 71. -/
def scratch (x3 : Vec F S1x128x2048 .f32) (x4 : Vec F S64x192 .f32) : Vec F S72x2048 .f32 :=
  View.canon [⟨Rect.unit (s := S72x2048) ![64, 0] S8x2048.size inb_S72x2048_S8x2048_64_0, k0_pay7 (F := F)⟩,
    ⟨Rect.unit (s := S72x2048) ![0, 0] S64x2048.size inb_S72x2048_S64x2048_0_0,
      k0_pay6 (View.ld x4 (Rect.unit (s := S64x192) ![0, 64] S64x128.size inb_S64x192_S64x128_0_64)) x3⟩]

/-- The block of pre-normalised features: from the dense coordinates `x0`, the sparse coordinates `x1`, the dense
    features `x2`, the weights `x4` and the scratch `S`. -/
def feats (x0 : Vec F S1x3x2048 .f32) (x1 : Vec F S1x2048x3 .f32) (x2 : Vec F S1x64x2048 .f32) (x4 : Vec F S64x192 .f32)
    (S : Vec F S72x2048 .f32) : FVec F S64x2048 .f32 :=
  k0_pay17 (k0_pay9 x0) (k0_pay13 x0 x1) (k0_pay14 x0 x1) (k0_pay15 x0 x1) (k0_pay16 x0 x1) S
    (View.ld x4 (Rect.unit (s := S64x192) ![0, 0] S64x64.size inb_S64x192_S64x64_0_0)) x2

/-! ## Loads and stores of a whole block -/

theorem origin_two : (![0, 0] : Fin 2 → ℕ) = fun _ => 0 := by funext a; fin_cases a <;> rfl

theorem origin_three : (![0, 0, 0] : Fin 3 → ℕ) = fun _ => 0 := by funext a; fin_cases a <;> rfl

/-- A last store to the whole of a block leaves its payload. -/
theorem left_whole {S : Shape} {e : EltTy} {κ : Kind} {sp : Space} (v : View sig κ sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  subst h
  rw [View.read_writes_eq_canon v f _ fun y => ⟨_, List.mem_cons_self, by
    show y ∈ (Rect.whole S).set; rw [Rect.set_whole]; exact Finset.mem_univ y⟩]
  exact View.canon_cons_unit_zero rfl inb w L

/-- A load of the whole of a block reads its contents. -/
theorem load_whole {S : Shape} {e : EltTy} {κ : Kind} {sp : Space} (v : View sig κ sp S e) (f : v.ty.Contents (Elt F)) {off : Fin S.rank → ℕ}
    (h : off = fun _ => 0) (inb : ∀ a, off a + S.size a ≤ S.size a) :
    v.readAt (Elt F) (Rect.unit off S.size inb).toLoadRect f = v.read (Elt F) f := by
  rw [View.readAt_eq_ld]; exact View.ld_unit_zero h inb _

/-- The refill's two stores reach every index of the scratch. -/
theorem scratch_cover (w7 : Vec F S8x2048 .f32) (w6 : Vec F S64x2048 .f32) (y : S72x2048.Idx) :
    ∃ p ∈ ([⟨Rect.unit (s := S72x2048) ![64, 0] S8x2048.size inb_S72x2048_S8x2048_64_0, w7⟩,
      ⟨Rect.unit (s := S72x2048) ![0, 0] S64x2048.size inb_S72x2048_S64x2048_0_0, w6⟩] : List (View.Piece (Elt F) S72x2048 .f32)), y ∈ p.1.set :=
  View.cover_of_tiledBy _ ![8, 2048] (by sl_kernel_rfl) y

section Run

variable (c : Dev nD) (i : grid0.Coords) (arg2 : Memref sig .tc .vmem S1x3x2048 .f32) (harg2 : arg2.IsWhole)
  (arg3 : Memref sig .tc .vmem S1x2048x3 .f32) (harg3 : arg3.IsWhole) (arg4 : Memref sig .tc .vmem S1x64x2048 .f32) (harg4 : arg4.IsWhole)
  (arg5 : Memref sig .tc .vmem S1x128x2048 .f32) (harg5 : arg5.IsWhole) (arg6 : Memref sig .tc .vmem S64x192 .f32) (harg6 : arg6.IsWhole)
  (arg7 : Memref sig .tc .vmem S1x64x2048 .f32) (harg7 : arg7.IsWhole) (arg8 : Memref sig .tc .vmem S64x1 .f32) (harg8 : arg8.IsWhole)
  (arg9 : Memref sig .tc .vmem S64x1 .f32) (harg9 : arg9.IsWhole) (arg10 : Memref sig .tc .vmem S72x2048 .f32) (harg10 : arg10.IsWhole)
  (x0 : Vec F S1x3x2048 .f32) (x1 : Vec F S1x2048x3 .f32) (x2 : Vec F S1x64x2048 .f32) (x3 : Vec F S1x128x2048 .f32) (x4 : Vec F S64x192 .f32)

/-- The five input blocks, held at their contents. -/
abbrev inputs : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4)

/-- The three output blocks and the scratch, held at given contents. -/
abbrev outputs (y : Vec F S1x64x2048 .f32) (s q : Vec F S64x1 .f32) (S : Vec F S72x2048 .f32) : sProp 𝕄 :=
  iprop(owns (c : Thread nD τ) arg7 fullShare y ∗ owns (c : Thread nD τ) arg8 fullShare s ∗ owns (c : Thread nD τ) arg9 fullShare q
    ∗ owns (c : Thread nD τ) arg10 fullShare S)

set_option maxHeartbeats 1000000 in
/-- The grid's first point: everything is filled afresh. -/
theorem run_first (hc0 : newBatch i) (hc1 : newGrid i) (E : Set ℕ) (K : PUnit → sProp 𝕄) :
    iprop(inputs c arg2 arg3 arg4 arg5 arg6 x0 x1 x2 x3 x4 ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(inputs c arg2 arg3 arg4 arg5 arg6 x0 x1 x2 x3 x4 ∗ outputs c arg7 arg8 arg9 arg10 (k0_pay1 (feats x0 x1 x2 x4 (scratch x3 x4)))
            (k0_pay4 (feats x0 x1 x2 x4 (scratch x3 x4)) k0_pay2) (k0_pay5 (feats x0 x1 x2 x4 (scratch x3 x4)) k0_pay3) (scratch x3 x4)) -∗ K ⟨⟩))
      ⊢ wp frame (wpE (defs₀ (F := F)) Variants.none c none) E (cc0__knn_body i arg2 harg2 arg3 harg3 arg4 harg4 arg5 harg5 arg6 harg6 arg7 harg7 arg8 harg8 arg9 harg9 arg10 harg10) K := by
  simp only [cc0__knn_body_eq_skeleton]; unfold cc0__knn_body_skel
  simp only [k0_part1_eq_skeleton, k0_part2_eq_skeleton]
  unfold inputs outputs owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%d6, %f6, -, H6⟩, ⟨%d7, %f7, -, H7⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0 | sl_exact hc1)
  sl_step
  have e0 : arg2.view.readAt (Elt F) (Rect.unit (s := S1x3x2048) ![0, 0, 0] S1x3x2048.size inb_S1x3x2048_S1x3x2048_0_0_0).toLoadRect (harg2.unread x0) = x0 :=
    (load_whole _ _ origin_three _).trans (harg2.read_unread _)
  have e1 : arg3.view.readAt (Elt F) (Rect.unit (s := S1x2048x3) ![0, 0, 0] S1x2048x3.size inb_S1x2048x3_S1x2048x3_0_0_0).toLoadRect (harg3.unread x1) = x1 :=
    (load_whole _ _ origin_three _).trans (harg3.read_unread _)
  have e2 : arg4.view.readAt (Elt F) (Rect.unit (s := S1x64x2048) ![0, 0, 0] S1x64x2048.size inb_S1x64x2048_S1x64x2048_0_0_0).toLoadRect (harg4.unread x2) = x2 :=
    (load_whole _ _ origin_three _).trans (harg4.read_unread _)
  have e3 : arg5.view.readAt (Elt F) (Rect.unit (s := S1x128x2048) ![0, 0, 0] S1x128x2048.size inb_S1x128x2048_S1x128x2048_0_0_0).toLoadRect (harg5.unread x3) = x3 :=
    (load_whole _ _ origin_three _).trans (harg5.read_unread _)
  have e4 : arg6.view.readAt (Elt F) (Rect.unit (s := S64x192) ![0, 64] S64x128.size inb_S64x192_S64x128_0_64).toLoadRect (harg6.unread x4)
      = View.ld x4 (Rect.unit (s := S64x192) ![0, 64] S64x128.size inb_S64x192_S64x128_0_64) := by
    rw [View.readAt_eq_ld, harg6.read_unread]
  have e5 : arg6.view.readAt (Elt F) (Rect.unit (s := S64x192) ![0, 0] S64x64.size inb_S64x192_S64x64_0_0).toLoadRect (harg6.unread x4)
      = View.ld x4 (Rect.unit (s := S64x192) ![0, 0] S64x64.size inb_S64x192_S64x64_0_0) := by
    rw [View.readAt_eq_ld, harg6.read_unread]
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  have es : arg10.view.readCov ([⟨Rect.unit ![64, 0] S8x2048.size inb_S72x2048_S8x2048_64_0, k0_pay7⟩,
        ⟨Rect.unit ![0, 0] S64x2048.size inb_S72x2048_S64x2048_0_0, k0_pay6 (View.ld x4 (Rect.unit (s := S64x192) ![0, 64] S64x128.size inb_S64x192_S64x128_0_64)) x3⟩])
      (Rect.unit (s := S72x2048) ![0, 0] S72x2048.size inb_S72x2048_S72x2048_0_0).toLoadRect = scratch x3 x4 :=
    (View.readCov_eq_canon_ld _ _ _ (scratch_cover (F := F) _ _)).trans (View.ld_unit_zero origin_two _ _)
  isplitl [H5]
  · iexists _; isplitr; swap; · iexact H5
    ipureintro; sl_unfold_words
    refine (left_whole _ _ origin_three _ _ _).trans ?_
    simp only [e0, e1, e2, e3, e4, e5, es]; rfl
  isplitl [H6]
  · iexists _; isplitr; swap; · iexact H6
    ipureintro; sl_unfold_words
    refine (left_whole _ _ origin_two _ _ _).trans ?_
    simp only [e0, e1, e2, e3, e4, e5, es]
    exact congrArg (k0_pay4 _) (View.readCov_unit_zero _ origin_two _ _)
  isplitl [H7]
  · iexists _; isplitr; swap; · iexact H7
    ipureintro; sl_unfold_words
    refine (left_whole _ _ origin_two _ _ _).trans ?_
    simp only [e0, e1, e2, e3, e4, e5, es]
    exact congrArg (k0_pay5 _) (View.readCov_unit_zero _ origin_two _ _)
  iexists _; isplitr; swap; · iexact HS0
  ipureintro; sl_unfold_words
  simp only [e3, e4]
  exact View.read_writes_eq_canon _ _ _ (scratch_cover (F := F) _ _)

set_option maxHeartbeats 1000000 in
/-- The first point of a later batch: the scratch is refilled and the running sums go on. -/
theorem run_batch (hc0 : newBatch i) (hc1 : ¬newGrid i) (s q : Vec F S64x1 .f32) (E : Set ℕ) (K : PUnit → sProp 𝕄) :
    iprop(inputs c arg2 arg3 arg4 arg5 arg6 x0 x1 x2 x3 x4 ∗ (∃ d, owns (c : Thread nD τ) arg7 fullShare d) ∗ owns (c : Thread nD τ) arg8 fullShare s
        ∗ owns (c : Thread nD τ) arg9 fullShare q ∗ (∃ d, owns (c : Thread nD τ) arg10 fullShare d)
        ∗ (iprop(inputs c arg2 arg3 arg4 arg5 arg6 x0 x1 x2 x3 x4 ∗ outputs c arg7 arg8 arg9 arg10 (k0_pay1 (feats x0 x1 x2 x4 (scratch x3 x4)))
            (k0_pay4 (feats x0 x1 x2 x4 (scratch x3 x4)) s) (k0_pay5 (feats x0 x1 x2 x4 (scratch x3 x4)) q) (scratch x3 x4)) -∗ K ⟨⟩))
      ⊢ wp frame (wpE (defs₀ (F := F)) Variants.none c none) E (cc0__knn_body i arg2 harg2 arg3 harg3 arg4 harg4 arg5 harg5 arg6 harg6 arg7 harg7 arg8 harg8 arg9 harg9 arg10 harg10) K := by
  simp only [cc0__knn_body_eq_skeleton]; unfold cc0__knn_body_skel
  simp only [k0_part1_eq_skeleton, k0_part2_eq_skeleton]
  unfold inputs outputs owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%f6, %hf6, H6⟩, ⟨%f7, %hf7, H7⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hf6; obtain rfl := harg9.eq_unread hf7
  sl_exec (disch := first | sl_exact hc0 | sl_exact hc1)
  sl_step
  have e0 : arg2.view.readAt (Elt F) (Rect.unit (s := S1x3x2048) ![0, 0, 0] S1x3x2048.size inb_S1x3x2048_S1x3x2048_0_0_0).toLoadRect (harg2.unread x0) = x0 :=
    (load_whole _ _ origin_three _).trans (harg2.read_unread _)
  have e1 : arg3.view.readAt (Elt F) (Rect.unit (s := S1x2048x3) ![0, 0, 0] S1x2048x3.size inb_S1x2048x3_S1x2048x3_0_0_0).toLoadRect (harg3.unread x1) = x1 :=
    (load_whole _ _ origin_three _).trans (harg3.read_unread _)
  have e2 : arg4.view.readAt (Elt F) (Rect.unit (s := S1x64x2048) ![0, 0, 0] S1x64x2048.size inb_S1x64x2048_S1x64x2048_0_0_0).toLoadRect (harg4.unread x2) = x2 :=
    (load_whole _ _ origin_three _).trans (harg4.read_unread _)
  have e3 : arg5.view.readAt (Elt F) (Rect.unit (s := S1x128x2048) ![0, 0, 0] S1x128x2048.size inb_S1x128x2048_S1x128x2048_0_0_0).toLoadRect (harg5.unread x3) = x3 :=
    (load_whole _ _ origin_three _).trans (harg5.read_unread _)
  have e4 : arg6.view.readAt (Elt F) (Rect.unit (s := S64x192) ![0, 64] S64x128.size inb_S64x192_S64x128_0_64).toLoadRect (harg6.unread x4)
      = View.ld x4 (Rect.unit (s := S64x192) ![0, 64] S64x128.size inb_S64x192_S64x128_0_64) := by
    rw [View.readAt_eq_ld, harg6.read_unread]
  have e5 : arg6.view.readAt (Elt F) (Rect.unit (s := S64x192) ![0, 0] S64x64.size inb_S64x192_S64x64_0_0).toLoadRect (harg6.unread x4)
      = View.ld x4 (Rect.unit (s := S64x192) ![0, 0] S64x64.size inb_S64x192_S64x64_0_0) := by
    rw [View.readAt_eq_ld, harg6.read_unread]
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  have es : arg10.view.readCov ([⟨Rect.unit ![64, 0] S8x2048.size inb_S72x2048_S8x2048_64_0, k0_pay7⟩,
        ⟨Rect.unit ![0, 0] S64x2048.size inb_S72x2048_S64x2048_0_0, k0_pay6 (View.ld x4 (Rect.unit (s := S64x192) ![0, 64] S64x128.size inb_S64x192_S64x128_0_64)) x3⟩])
      (Rect.unit (s := S72x2048) ![0, 0] S72x2048.size inb_S72x2048_S72x2048_0_0).toLoadRect = scratch x3 x4 :=
    (View.readCov_eq_canon_ld _ _ _ (scratch_cover (F := F) _ _)).trans (View.ld_unit_zero origin_two _ _)
  have e6 : arg8.view.readAt (Elt F) (Rect.unit (s := S64x1) ![0, 0] S64x1.size inb_S64x1_S64x1_0_0).toLoadRect (harg8.unread s) = s :=
    (load_whole _ _ origin_two _).trans (harg8.read_unread _)
  have e7 : arg9.view.readAt (Elt F) (Rect.unit (s := S64x1) ![0, 0] S64x1.size inb_S64x1_S64x1_0_0).toLoadRect (harg9.unread q) = q :=
    (load_whole _ _ origin_two _).trans (harg9.read_unread _)
  isplitl [H5]
  · iexists _; isplitr; swap; · iexact H5
    ipureintro; sl_unfold_words
    refine (left_whole _ _ origin_three _ _ _).trans ?_
    simp only [e0, e1, e2, e3, e4, e5, es]; rfl
  isplitl [H6]
  · iexists _; isplitr; swap; · iexact H6
    ipureintro; sl_unfold_words
    refine (left_whole _ _ origin_two _ _ _).trans ?_
    simp only [e0, e1, e2, e3, e4, e5, es]
    exact congrArg (k0_pay4 _) e6
  isplitl [H7]
  · iexists _; isplitr; swap; · iexact H7
    ipureintro; sl_unfold_words
    refine (left_whole _ _ origin_two _ _ _).trans ?_
    simp only [e0, e1, e2, e3, e4, e5, es]
    exact congrArg (k0_pay5 _) e7
  iexists _; isplitr; swap; · iexact HS0
  ipureintro; sl_unfold_words
  simp only [e3, e4]
  exact View.read_writes_eq_canon _ _ _ (scratch_cover (F := F) _ _)

set_option maxHeartbeats 1000000 in
/-- Any other point: the scratch is read as it stands and the running sums go on. -/
theorem run_within (hc0 : ¬newBatch i) (hc1 : ¬newGrid i) (s q : Vec F S64x1 .f32) (S : Vec F S72x2048 .f32) (E : Set ℕ) (K : PUnit → sProp 𝕄) :
    iprop(inputs c arg2 arg3 arg4 arg5 arg6 x0 x1 x2 x3 x4 ∗ (∃ d, owns (c : Thread nD τ) arg7 fullShare d) ∗ owns (c : Thread nD τ) arg8 fullShare s
        ∗ owns (c : Thread nD τ) arg9 fullShare q ∗ owns (c : Thread nD τ) arg10 fullShare S
        ∗ (iprop(inputs c arg2 arg3 arg4 arg5 arg6 x0 x1 x2 x3 x4 ∗ outputs c arg7 arg8 arg9 arg10 (k0_pay1 (feats x0 x1 x2 x4 S))
            (k0_pay4 (feats x0 x1 x2 x4 S) s) (k0_pay5 (feats x0 x1 x2 x4 S) q) S) -∗ K ⟨⟩))
      ⊢ wp frame (wpE (defs₀ (F := F)) Variants.none c none) E (cc0__knn_body i arg2 harg2 arg3 harg3 arg4 harg4 arg5 harg5 arg6 harg6 arg7 harg7 arg8 harg8 arg9 harg9 arg10 harg10) K := by
  simp only [cc0__knn_body_eq_skeleton]; unfold cc0__knn_body_skel
  simp only [k0_part1_eq_skeleton, k0_part2_eq_skeleton]
  unfold inputs outputs owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%f6, %hf6, H6⟩, ⟨%f7, %hf7, H7⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hf6; obtain rfl := harg9.eq_unread hf7
  obtain rfl := harg10.eq_unread hfs0
  sl_exec (disch := first | sl_exact hc0 | sl_exact hc1)
  sl_step
  have e0 : arg2.view.readAt (Elt F) (Rect.unit (s := S1x3x2048) ![0, 0, 0] S1x3x2048.size inb_S1x3x2048_S1x3x2048_0_0_0).toLoadRect (harg2.unread x0) = x0 :=
    (load_whole _ _ origin_three _).trans (harg2.read_unread _)
  have e1 : arg3.view.readAt (Elt F) (Rect.unit (s := S1x2048x3) ![0, 0, 0] S1x2048x3.size inb_S1x2048x3_S1x2048x3_0_0_0).toLoadRect (harg3.unread x1) = x1 :=
    (load_whole _ _ origin_three _).trans (harg3.read_unread _)
  have e2 : arg4.view.readAt (Elt F) (Rect.unit (s := S1x64x2048) ![0, 0, 0] S1x64x2048.size inb_S1x64x2048_S1x64x2048_0_0_0).toLoadRect (harg4.unread x2) = x2 :=
    (load_whole _ _ origin_three _).trans (harg4.read_unread _)
  have e3 : arg5.view.readAt (Elt F) (Rect.unit (s := S1x128x2048) ![0, 0, 0] S1x128x2048.size inb_S1x128x2048_S1x128x2048_0_0_0).toLoadRect (harg5.unread x3) = x3 :=
    (load_whole _ _ origin_three _).trans (harg5.read_unread _)
  have e4 : arg6.view.readAt (Elt F) (Rect.unit (s := S64x192) ![0, 64] S64x128.size inb_S64x192_S64x128_0_64).toLoadRect (harg6.unread x4)
      = View.ld x4 (Rect.unit (s := S64x192) ![0, 64] S64x128.size inb_S64x192_S64x128_0_64) := by
    rw [View.readAt_eq_ld, harg6.read_unread]
  have e5 : arg6.view.readAt (Elt F) (Rect.unit (s := S64x192) ![0, 0] S64x64.size inb_S64x192_S64x64_0_0).toLoadRect (harg6.unread x4)
      = View.ld x4 (Rect.unit (s := S64x192) ![0, 0] S64x64.size inb_S64x192_S64x64_0_0) := by
    rw [View.readAt_eq_ld, harg6.read_unread]
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  have es : arg10.view.readAt (Elt F) (Rect.unit (s := S72x2048) ![0, 0] S72x2048.size inb_S72x2048_S72x2048_0_0).toLoadRect (harg10.unread S) = S :=
    (load_whole _ _ origin_two _).trans (harg10.read_unread _)
  have e6 : arg8.view.readAt (Elt F) (Rect.unit (s := S64x1) ![0, 0] S64x1.size inb_S64x1_S64x1_0_0).toLoadRect (harg8.unread s) = s :=
    (load_whole _ _ origin_two _).trans (harg8.read_unread _)
  have e7 : arg9.view.readAt (Elt F) (Rect.unit (s := S64x1) ![0, 0] S64x1.size inb_S64x1_S64x1_0_0).toLoadRect (harg9.unread q) = q :=
    (load_whole _ _ origin_two _).trans (harg9.read_unread _)
  isplitl [H5]
  · iexists _; isplitr; swap; · iexact H5
    ipureintro; sl_unfold_words
    refine (left_whole _ _ origin_three _ _ _).trans ?_
    simp only [e0, e1, e2, e5, es]; rfl
  isplitl [H6]
  · iexists _; isplitr; swap; · iexact H6
    ipureintro; sl_unfold_words
    refine (left_whole _ _ origin_two _ _ _).trans ?_
    simp only [e0, e1, e2, e5, es]
    exact congrArg (k0_pay4 _) e6
  isplitl [H7]
  · iexists _; isplitr; swap; · iexact H7
    ipureintro; sl_unfold_words
    refine (left_whole _ _ origin_two _ _ _).trans ?_
    simp only [e0, e1, e2, e5, es]
    exact congrArg (k0_pay5 _) e7
  iexists _; isplitr; swap; · iexact HS0
  ipureintro; exact harg10.read_unread _

end Run

end Cert.KernelIdeal.Hand

end
-- ==== Proof.KnnRegion.lean ====
/- The first call's region: what each of its staging buffers and its scratch hold after every grid point, and the proof
   that the body takes each point's contents to the next one's.

   The scratch is carried between the points of a batch and the two running sums across the whole grid, so what they hold
   is given by recursion on the point. The region's entry contents `V` are a parameter. -/
module

public import proofs.«01_k».proof.Proof.KnnBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The dense coordinates' block at point `t`, -/
abbrev inA (c : Dev nD) (t : Fin cfg0.N) : Vec F S1x3x2048 .f32 := blk0 V c 0 t
/-- the sparse coordinates', -/
abbrev inB (c : Dev nD) (t : Fin cfg0.N) : Vec F S1x2048x3 .f32 := blk0 V c 1 t
/-- the dense features', -/
abbrev inC (c : Dev nD) (t : Fin cfg0.N) : Vec F S1x64x2048 .f32 := blk0 V c 2 t
/-- the sparse features', -/
abbrev inD (c : Dev nD) (t : Fin cfg0.N) : Vec F S1x128x2048 .f32 := blk0 V c 3 t
/-- and the weights. -/
abbrev inE (c : Dev nD) (t : Fin cfg0.N) : Vec F S64x192 .f32 := blk0 V c 4 t

/-! ## What is held after each point -/

/-- The scratch after point `n`: refilled at the first point of a batch, kept at the others. -/
def scrAt (c : Dev nD) : (n : ℕ) → n < cfg0.N → Vec F S72x2048 .f32
  | 0, h => scratch (inD V c ⟨0, h⟩) (inE V c ⟨0, h⟩)
  | n + 1, h => if (n + 1) % 4 = 0 then scratch (inD V c ⟨n + 1, h⟩) (inE V c ⟨n + 1, h⟩) else scrAt c n (Nat.lt_of_succ_lt h)

/-- The features point `t` computes. -/
def featAt (c : Dev nD) (t : Fin cfg0.N) : FVec F S64x2048 .f32 :=
  feats (inA V c t) (inB V c t) (inC V c t) (inE V c t) (scrAt V c t.val t.isLt)

/-- The running sum after point `n`. -/
def sumAt (c : Dev nD) : (n : ℕ) → n < cfg0.N → Vec F S64x1 .f32
  | 0, h => k0_pay4 (featAt V c ⟨0, h⟩) k0_pay2
  | n + 1, h => k0_pay4 (featAt V c ⟨n + 1, h⟩) (sumAt c n (Nat.lt_of_succ_lt h))

/-- The running sum of squares after point `n`. -/
def sqAt (c : Dev nD) : (n : ℕ) → n < cfg0.N → Vec F S64x1 .f32
  | 0, h => k0_pay5 (featAt V c ⟨0, h⟩) k0_pay3
  | n + 1, h => k0_pay5 (featAt V c ⟨n + 1, h⟩) (sqAt c n (Nat.lt_of_succ_lt h))

theorem prev_lt (t : Fin cfg0.N) : t.val - 1 < cfg0.N := Nat.lt_of_le_of_lt (Nat.sub_le _ _) t.isLt

/-- At the first point of a batch the scratch is refilled. -/
theorem scrAt_fresh (c : Dev nD) (t : Fin cfg0.N) (h : t.val % 4 = 0) : scrAt V c t.val t.isLt = scratch (inD V c t) (inE V c t) := by
  obtain ⟨n, hn⟩ := t
  cases n with
  | zero => rfl
  | succ n => exact if_pos h

/-- At any other point it is what the point before left. -/
theorem scrAt_kept (c : Dev nD) (t : Fin cfg0.N) (h : ¬t.val % 4 = 0) : scrAt V c t.val t.isLt = scrAt V c (t.val - 1) (prev_lt t) := by
  obtain ⟨n, hn⟩ := t
  cases n with
  | zero => exact absurd (Nat.zero_mod 4) h
  | succ n => exact if_neg h

theorem sumAt_zero (c : Dev nD) (t : Fin cfg0.N) (h : t.val = 0) : sumAt V c t.val t.isLt = k0_pay4 (featAt V c t) k0_pay2 := by
  obtain ⟨n, hn⟩ := t; obtain rfl : n = 0 := h; rfl

theorem sumAt_pos (c : Dev nD) (t : Fin cfg0.N) (h : ¬t.val = 0) :
    sumAt V c t.val t.isLt = k0_pay4 (featAt V c t) (sumAt V c (t.val - 1) (prev_lt t)) := by
  obtain ⟨n, hn⟩ := t
  cases n with
  | zero => exact absurd rfl h
  | succ n => rfl

theorem sqAt_zero (c : Dev nD) (t : Fin cfg0.N) (h : t.val = 0) : sqAt V c t.val t.isLt = k0_pay5 (featAt V c t) k0_pay3 := by
  obtain ⟨n, hn⟩ := t; obtain rfl : n = 0 := h; rfl

theorem sqAt_pos (c : Dev nD) (t : Fin cfg0.N) (h : ¬t.val = 0) :
    sqAt V c t.val t.isLt = k0_pay5 (featAt V c t) (sqAt V c (t.val - 1) (prev_lt t)) := by
  obtain ⟨n, hn⟩ := t
  cases n with
  | zero => exact absurd rfl h
  | succ n => rfl

/-! ## The staging buffers -/

/-- The staging buffer of each window at point `t`. -/
abbrev stg0_0 (t : Fin cfg0.N) : Memref sig .tc .vmem S1x3x2048 .f32 := win0_0.stage (cfg0.slots t 0)
abbrev stg0_1 (t : Fin cfg0.N) : Memref sig .tc .vmem S1x2048x3 .f32 := win0_1.stage (cfg0.slots t 1)
abbrev stg0_2 (t : Fin cfg0.N) : Memref sig .tc .vmem S1x64x2048 .f32 := win0_2.stage (cfg0.slots t 2)
abbrev stg0_3 (t : Fin cfg0.N) : Memref sig .tc .vmem S1x128x2048 .f32 := win0_3.stage (cfg0.slots t 3)
abbrev stg0_4 (t : Fin cfg0.N) : Memref sig .tc .vmem S64x192 .f32 := win0_4.stage (cfg0.slots t 4)
abbrev stg0_5 (t : Fin cfg0.N) : Memref sig .tc .vmem S1x64x2048 .f32 := win0_5.stage (cfg0.slots t 5)
abbrev stg0_6 (t : Fin cfg0.N) : Memref sig .tc .vmem S64x1 .f32 := win0_6.stage (cfg0.slots t 6)
abbrev stg0_7 (t : Fin cfg0.N) : Memref sig .tc .vmem S64x1 .f32 := win0_7.stage (cfg0.slots t 7)
/-- The scratch buffer. -/
abbrev scr0 : Memref sig .tc .vmem S72x2048 .f32 := Memref.whole cc0_scratch0

/-- One of the second call's staging buffers, at some contents. -/
abbrev someAt (c : Dev nD) (b : Ref sig .tc) : sProp 𝕄 :=
  iprop(∃ f : Buf (Elt F) ((c : Thread nD τ).loc b), ((c : Thread nD τ).loc b) ↦{fullShare} f)

/-- The second call's staging buffers, none of which this region touches. -/
def others0 (c : Dev nD) : sProp 𝕄 :=
  iprop(someAt c cc1_stg0_0 ∗ someAt c cc1_stg0_1 ∗ someAt c cc1_stg1_0 ∗ someAt c cc1_stg2_0 ∗ someAt c cc1_stg3_0
    ∗ someAt c cc1_stg4_0 ∗ someAt c cc1_stg6_0 ∗ someAt c cc1_stg6_1 ∗ someAt c cc1_stg5_0)

/-- What the region is handed beside its windows: the scratch at some contents, the other call's staging buffers and the
    generator register at some state. -/
theorem rest0_eq (c : Dev nD) :
    (Pipeline.ΦA spec0 c : sProp 𝕄)
      = iprop(((∃ d, owns (c : Thread nD τ) scr0 fullShare d) ∗ others0 c) ∗ (∃ r, prngReg c r)) := by
  unfold Pipeline.ΦA others0; rw [scopedRest0_eq]; simp only [scr0, owns_whole]; rfl

/-- The invariant before point `n`: before the first the scratch at anything, afterwards at what the point before left. -/
def inv0 (c : Dev nD) : (n : ℕ) → n ≤ cfg0.N → sProp 𝕄
  | 0, _ => Pipeline.ΦA spec0 c
  | n + 1, hn => iprop((owns (c : Thread nD τ) scr0 fullShare (scrAt V c n hn) ∗ others0 c) ∗ (∃ r, prngReg c r))

theorem inv0_zero (c : Dev nD) (n : ℕ) (h : n ≤ cfg0.N) (hz : n = 0) : inv0 V c n h = Pipeline.ΦA spec0 c := by
  subst hz; rfl

theorem inv0_succ (c : Dev nD) (n : ℕ) (hn : n < cfg0.N) :
    inv0 V c (n + 1) hn = iprop((owns (c : Thread nD τ) scr0 fullShare (scrAt V c n hn) ∗ others0 c) ∗ (∃ r, prngReg c r)) := rfl

theorem inv0_pos (c : Dev nD) (n : ℕ) (h : n ≤ cfg0.N) (hz : ¬n = 0) :
    inv0 V c n h = iprop((owns (c : Thread nD τ) scr0 fullShare (scrAt V c (n - 1) (by omega)) ∗ others0 c) ∗ (∃ r, prngReg c r)) := by
  cases n with
  | zero => exact absurd rfl hz
  | succ n => rfl

/-! ## The pipeline's data -/

/-- The first pipeline on core `c`: its arrays as the region finds them, each input's buffer left at its block, the
    outputs' at the contents above. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => k0_pay1 (featAt V c t)
    | ⟨6, _⟩ => sumAt V c t.val t.isLt
    | ⟨7, _⟩ => sqAt V c t.val t.isLt
  Φ t := inv0 V c t.val (Nat.le_of_lt_succ t.isLt)
  q _ := fullShare
  owed _ := 0

theorem arr0 (c : Dev nD) (w : Fin cfg0.W) : (dat0 V c).A w = V c (Pipeline.arrRef spec0 w) := by
  dsimp only [dat0]

theorem inv0_castSucc (c : Dev nD) (t : Fin cfg0.N) :
    (dat0 V c).Φ t.castSucc = inv0 V c t.val (Nat.le_of_lt t.isLt) := by
  dsimp only [dat0]; exact Pipeline.Dat.Φ_castSucc (inv0 V c) t

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = k0_pay1 (featAt V c t) := by dsimp only [dat0]
theorem after0_6 (c : Dev nD) (t : Fin cfg0.N) : (dat0 V c).after 6 t = sumAt V c t.val t.isLt := by dsimp only [dat0]
theorem after0_7 (c : Dev nD) (t : Fin cfg0.N) : (dat0 V c).after 7 t = sqAt V c t.val t.isLt := by dsimp only [dat0]

/-- Each input's staging buffer holds its block at every point, whether it was fetched there or is still in place. -/
theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [arr0]; try rfl) t d).trans
    (by unfold Dat.fetched Dat.blockOf blk0; rw [arr0]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [arr0]; try rfl) t d).trans
    (by unfold Dat.fetched Dat.blockOf blk0; rw [arr0]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [arr0]; try rfl) t d).trans
    (by unfold Dat.fetched Dat.blockOf blk0; rw [arr0]; try rfl)
theorem before0_3 (c : Dev nD) (t : Fin cfg0.N) (d) : (dat0 V c).before 3 t d = blk0 V c 3 t :=
  ((dat0 V c).before_in_eq_fetched 3 rfl (fun _ => rfl) (fun _ _ _ => rfl) (fun t => by rw [after0_3]; unfold Dat.blockOf blk0; rw [arr0]; try rfl) t d).trans
    (by unfold Dat.fetched Dat.blockOf blk0; rw [arr0]; try rfl)
theorem before0_4 (c : Dev nD) (t : Fin cfg0.N) (d) : (dat0 V c).before 4 t d = blk0 V c 4 t :=
  ((dat0 V c).before_in_eq_fetched 4 rfl (fun _ => rfl) (fun _ _ _ => rfl) (fun t => by rw [after0_4]; unfold Dat.blockOf blk0; rw [arr0]; try rfl) t d).trans
    (by unfold Dat.fetched Dat.blockOf blk0; rw [arr0]; try rfl)
/-- After the first point the running sum is still what the point before left: it is written back only at the end. -/
theorem before0_6 (c : Dev nD) (t : Fin cfg0.N) (h : ¬t.val = 0) (d) :
    (dat0 V c).before 6 t d = sumAt V c (t.val - 1) (prev_lt t) := by
  have hN : t.val < 16 := lt_of_lt_of_eq t.isLt (show cfg0.N = 16 from N_0)
  rw [Dat.before_out_kept _ 6 rfl t (by omega) (Bool.eq_false_iff.mpr fun h => by have := (flush0_6 _).mp h; dsimp only at this; omega)
    (fun _ => rfl) (fun _ _ => rfl)]
  dsimp only [dat0]
/-- After the first point the running sum of squares is still what the point before left: it is written back only at the end. -/
theorem before0_7 (c : Dev nD) (t : Fin cfg0.N) (h : ¬t.val = 0) (d) :
    (dat0 V c).before 7 t d = sqAt V c (t.val - 1) (prev_lt t) := by
  have hN : t.val < 16 := lt_of_lt_of_eq t.isLt (show cfg0.N = 16 from N_0)
  rw [Dat.before_out_kept _ 7 rfl t (by omega) (Bool.eq_false_iff.mpr fun h => by have := (flush0_7 _).mp h; dsimp only at this; omega)
    (fun _ => rfl) (fun _ _ => rfl)]
  dsimp only [dat0]

/-! ## The body at a point -/

/-- What the body is called with at point `t`, -/
def pre0 (c : Dev nD) (t : Fin cfg0.N) : sProp 𝕄 :=
  iprop((dat0 V c).Φ t.castSucc ∗ (dat0 V c).owesAt () t.castSucc
    ∗ (∃ d, owns (c : Thread nD τ) (stg0_0 t) fullShare ((dat0 V c).before 0 t d))
    ∗ (∃ d, owns (c : Thread nD τ) (stg0_1 t) fullShare ((dat0 V c).before 1 t d))
    ∗ (∃ d, owns (c : Thread nD τ) (stg0_2 t) fullShare ((dat0 V c).before 2 t d))
    ∗ (∃ d, owns (c : Thread nD τ) (stg0_3 t) fullShare ((dat0 V c).before 3 t d))
    ∗ (∃ d, owns (c : Thread nD τ) (stg0_4 t) fullShare ((dat0 V c).before 4 t d))
    ∗ (∃ d, owns (c : Thread nD τ) (stg0_5 t) fullShare ((dat0 V c).before 5 t d))
    ∗ (∃ d, owns (c : Thread nD τ) (stg0_6 t) fullShare ((dat0 V c).before 6 t d))
    ∗ (∃ d, owns (c : Thread nD τ) (stg0_7 t) fullShare ((dat0 V c).before 7 t d)))

/-- and what it returns. -/
def post0 (c : Dev nD) (t : Fin cfg0.N) : sProp 𝕄 :=
  iprop((dat0 V c).Φ t.succ ∗ (dat0 V c).owesAt () t.succ
    ∗ owns (c : Thread nD τ) (stg0_0 t) fullShare ((dat0 V c).after 0 t)
    ∗ owns (c : Thread nD τ) (stg0_1 t) fullShare ((dat0 V c).after 1 t)
    ∗ owns (c : Thread nD τ) (stg0_2 t) fullShare ((dat0 V c).after 2 t)
    ∗ owns (c : Thread nD τ) (stg0_3 t) fullShare ((dat0 V c).after 3 t)
    ∗ owns (c : Thread nD τ) (stg0_4 t) fullShare ((dat0 V c).after 4 t)
    ∗ owns (c : Thread nD τ) (stg0_5 t) fullShare ((dat0 V c).after 5 t)
    ∗ owns (c : Thread nD τ) (stg0_6 t) fullShare ((dat0 V c).after 6 t)
    ∗ owns (c : Thread nD τ) (stg0_7 t) fullShare ((dat0 V c).after 7 t))

set_option maxHeartbeats 4000000 in
/-- The body at any point takes the contents before it to those after it: the point is the first of the grid, the first
    of a later batch, or neither. -/
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4]
  rw [show (dat0 V c).owesAt () t.succ = (dat0 V c).owesAt () t.castSucc from rfl,
    after0_0, after0_1, after0_2, after0_3, after0_4, after0_5, after0_6, after0_7]
  rw [show (dat0 V c).Φ t.succ = inv0 V c (t.val + 1) t.isLt from rfl, inv0_succ, inv0_castSucc V c t]
  by_cases hz : t.val = 0
  · have h0 : t.val % 4 = 0 := by omega
    rw [inv0_zero V c _ _ hz, rest0_eq, sumAt_zero V c t hz, sqAt_zero V c t hz]
    unfold featAt; rw [scrAt_fresh V c t h0]
    iintro ⟨⟨⟨HS0, Hz⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) _ _ _ _ _ _ _ _ _ _ _ _ _ _ _ _ _ _ (inA V c t) (inB V c t) (inC V c t) (inD V c t) (inE V c t) ((newBatch_iff t).mpr h0) ((newGrid_iff t).mpr hz) Set.univ _)
    unfold inputs outputs
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    isplitl [H7]; · iexists _; iexact H7
    isplitl [HS0]; · iexact HS0
    iintro ⟨⟨H0, H1, H2, H3, H4⟩, H5, H6, H7, HS0⟩
    isplitl [HS0 Hz Hg]
    · isplitl [HS0 Hz]
      · isplitl [HS0]; · iexact HS0
        iexact Hz
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [inv0_pos V c _ _ hz, sumAt_pos V c t hz, sqAt_pos V c t hz]
    simp only [before0_6 V c t hz, before0_7 V c t hz]
    by_cases h0 : t.val % 4 = 0
    · unfold featAt; rw [scrAt_fresh V c t h0]
      iintro ⟨⟨⟨HS0, Hz⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_batch c (grid0.coords t) _ _ _ _ _ _ _ _ _ _ _ _ _ _ _ _ _ _ (inA V c t) (inB V c t) (inC V c t) (inD V c t) (inE V c t) ((newBatch_iff t).mpr h0) (fun h => hz ((newGrid_iff t).mp h)) _ _ Set.univ _)
      unfold inputs outputs
      isplitl [H0 H1 H2 H3 H4]
      · isplitl [H0]; · iexact H0
        isplitl [H1]; · iexact H1
        isplitl [H2]; · iexact H2
        isplitl [H3]; · iexact H3
        iexact H4
      isplitl [H5]; · iexists _; iexact H5
      isplitl [H6]; · iexact H6
      isplitl [H7]; · iexact H7
      isplitl [HS0]; · iexists _; iexact HS0
      iintro ⟨⟨H0, H1, H2, H3, H4⟩, H5, H6, H7, HS0⟩
      isplitl [HS0 Hz Hg]
      · isplitl [HS0 Hz]
        · isplitl [HS0]; · iexact HS0
          iexact Hz
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · unfold featAt; rw [scrAt_kept V c t h0]
      iintro ⟨⟨⟨HS0, Hz⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_within c (grid0.coords t) _ _ _ _ _ _ _ _ _ _ _ _ _ _ _ _ _ _ (inA V c t) (inB V c t) (inC V c t) (inD V c t) (inE V c t) (fun h => h0 ((newBatch_iff t).mp h)) (fun h => hz ((newGrid_iff t).mp h)) _ _ _ Set.univ _)
      unfold inputs outputs
      isplitl [H0 H1 H2 H3 H4]
      · isplitl [H0]; · iexact H0
        isplitl [H1]; · iexact H1
        isplitl [H2]; · iexact H2
        isplitl [H3]; · iexact H3
        iexact H4
      isplitl [H5]; · iexists _; iexact H5
      isplitl [H6]; · iexact H6
      isplitl [H7]; · iexact H7
      isplitl [HS0]; · iexact HS0
      iintro ⟨⟨H0, H1, H2, H3, H4⟩, H5, H6, H7, HS0⟩
      isplitl [HS0 Hz Hg]
      · isplitl [HS0 Hz]
        · isplitl [HS0]; · iexact HS0
          iexact Hz
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The call's table row at point `t` is the body at that point. -/
theorem row0 (t : Fin cfg0.N) : defs₀ (F := F) .tc cfg0.body (cfg0.bodyArgs t (cfg0.slots t)) = bodyAt0 t := by
  unfold defs₀; rw [Defs.onTc_tc]

/-- The body meets its obligation at every point. -/
theorem obligation0 (c : Dev nD) : BodyObligation (dat0 (F := F) V c) (defs₀ (F := F)) Variants.none () Set.univ := fun t => by
  rw [bigSep_W0, bigSep_W0, row0]
  exact triple_restated (body0 V c t) rfl .rfl fun _ => .rfl

/-- The invariant before the first point is what the region is handed, -/
theorem inv0_in (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

/-- and after the last point it gives that back, the scratch's contents forgotten. -/
theorem inv0_out (c : Dev nD) : (dat0 V c).Φ (Fin.last cfg0.N) ⊢ Pipeline.ΦA spec0 c := by
  have hN : cfg0.N = 16 := N_0
  rw [show (dat0 V c).Φ (Fin.last cfg0.N) = inv0 V c (Fin.last cfg0.N).val (Nat.le_of_lt_succ (Fin.last cfg0.N).isLt) from rfl,
    inv0_pos V c _ _ (by rw [Fin.val_last]; omega), rest0_eq]
  iintro ⟨⟨HS0, Hz⟩, Hg⟩
  isplitl [HS0 Hz]
  · isplitl [HS0]; · iexists _; iexact HS0
    iexact Hz
  iexact Hg

end Cert.KernelIdeal.Hand

end
-- ==== Proof.NormRegion.lean ====
/- The second call's region: the normalisation of each block from the totals, run once on whole blocks, and the proof that
   its body meets its obligation at every grid point. The region's entry contents `V` are a parameter. -/
module

public import proofs.«01_k».proof.Proof.KnnBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body on whole blocks -/

theorem origin_one : (![0] : Fin 1 → ℕ) = fun _ => 0 := by funext a; fin_cases a; rfl

/-- The normalised block: from the features `x0`, the two totals `x1` and `x2`, the two parameters `x3` and `x4` and the
    number of points `x5`. -/
def normed (x0 : Vec F S1x64x2048 .f32) (x1 x2 x3 x4 : Vec F S64x1 .f32) (x5 : Vec F S1 .f32) : Vec F S1x64x2048 .f32 :=
  k1_pay1 (x5 (Shape.Idx.first (by decide))) x1 x2 x3 x4 x0

set_option maxHeartbeats 1000000 in
/-- The body, run on whole blocks. -/
theorem run_norm (c : Dev nD) (i : grid1.Coords) (arg2 : Memref sig .tc .vmem S1x64x2048 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .smem S1 .f32) (harg7 : arg7.IsWhole) (arg8 : Memref sig .tc .vmem S1x64x2048 .f32) (harg8 : arg8.IsWhole)
    (x0 : Vec F S1x64x2048 .f32) (x1 x2 x3 x4 : Vec F S64x1 .f32) (x5 : Vec F S1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (normed x0 x1 x2 x3 x4 x5)) -∗ K ⟨⟩))
      ⊢ wp frame (wpE (defs₀ (F := F)) Variants.none c none) E (cc1__bn_body i arg2 harg2 arg3 harg3 arg4 harg4 arg5 harg5 arg6 harg6 arg7 harg7 arg8 harg8) K := by
  simp only [cc1__bn_body_eq_skeleton]; unfold cc1__bn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr; swap; · iexact H6
  ipureintro; sl_unfold_words
  refine (left_whole _ _ origin_three _ _ _).trans ?_
  have e0 : arg7.view.readAt (Elt F) (Rect.unit (s := S1) ![0] S1.size inb_S1_S1_0).toLoadRect (harg7.unread x5) = x5 :=
    (load_whole _ _ origin_one _).trans (harg7.read_unread _)
  have e1 : arg3.view.readAt (Elt F) (Rect.unit (s := S64x1) ![0, 0] S64x1.size inb_S64x1_S64x1_0_0).toLoadRect (harg3.unread x1) = x1 :=
    (load_whole _ _ origin_two _).trans (harg3.read_unread _)
  have e2 : arg4.view.readAt (Elt F) (Rect.unit (s := S64x1) ![0, 0] S64x1.size inb_S64x1_S64x1_0_0).toLoadRect (harg4.unread x2) = x2 :=
    (load_whole _ _ origin_two _).trans (harg4.read_unread _)
  have e3 : arg5.view.readAt (Elt F) (Rect.unit (s := S64x1) ![0, 0] S64x1.size inb_S64x1_S64x1_0_0).toLoadRect (harg5.unread x3) = x3 :=
    (load_whole _ _ origin_two _).trans (harg5.read_unread _)
  have e4 : arg6.view.readAt (Elt F) (Rect.unit (s := S64x1) ![0, 0] S64x1.size inb_S64x1_S64x1_0_0).toLoadRect (harg6.unread x4) = x4 :=
    (load_whole _ _ origin_two _).trans (harg6.read_unread _)
  have e5 : arg2.view.readAt (Elt F) (Rect.unit (s := S1x64x2048) ![0, 0, 0] S1x64x2048.size inb_S1x64x2048_S1x64x2048_0_0_0).toLoadRect (harg2.unread x0) = x0 :=
    (load_whole _ _ origin_three _).trans (harg2.read_unread _)
  simp only [e0, e1, e2, e3, e4, e5]; rfl

/-! ## The pipeline's data -/

variable (V : (c : Dev nD) → (b : Ref sig .tc) → Buf (Elt F) ((c : Thread nD τ).loc b))

/-- The block of window `w` at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What point `t` leaves in the output's staging buffer. -/
def normAt (c : Dev nD) (t : Fin cfg1.N) : Vec F S1x64x2048 .f32 :=
  normed (blk1 V c 0 t) (blk1 V c 1 t) (blk1 V c 2 t) (blk1 V c 3 t) (blk1 V c 4 t) (blk1 V c 5 t)

/-- The staging buffer of each window at point `t`. -/
abbrev stg1_0 (t : Fin cfg1.N) : Memref sig .tc .vmem S1x64x2048 .f32 := win1_0.stage (cfg1.slots t 0)
abbrev stg1_1 (t : Fin cfg1.N) : Memref sig .tc .vmem S64x1 .f32 := win1_1.stage (cfg1.slots t 1)
abbrev stg1_2 (t : Fin cfg1.N) : Memref sig .tc .vmem S64x1 .f32 := win1_2.stage (cfg1.slots t 2)
abbrev stg1_3 (t : Fin cfg1.N) : Memref sig .tc .vmem S64x1 .f32 := win1_3.stage (cfg1.slots t 3)
abbrev stg1_4 (t : Fin cfg1.N) : Memref sig .tc .vmem S64x1 .f32 := win1_4.stage (cfg1.slots t 4)
abbrev stg1_5 (t : Fin cfg1.N) : Memref sig .tc .smem S1 .f32 := win1_5.stage (cfg1.slots t 5)
abbrev stg1_6 (t : Fin cfg1.N) : Memref sig .tc .vmem S1x64x2048 .f32 := win1_6.stage (cfg1.slots t 6)

/-- The second pipeline on core `c`: its arrays as the region finds them, each input's buffer left at its block, the
    output's at the normalised block. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => normAt V c t
  Φ _ := Pipeline.ΦA spec1 c
  q _ := fullShare
  owed _ := 0

theorem arr1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = normAt V c t := by dsimp only [dat1]

/-- Each input's staging buffer holds its block at every point, whether it was fetched there or is still in place. -/
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [arr1]; try rfl) t d).trans
    (by unfold Dat.fetched Dat.blockOf blk1; rw [arr1]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [arr1]; try rfl) t d).trans
    (by unfold Dat.fetched Dat.blockOf blk1; rw [arr1]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [arr1]; try rfl) t d).trans
    (by unfold Dat.fetched Dat.blockOf blk1; rw [arr1]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [arr1]; try rfl) t d).trans
    (by unfold Dat.fetched Dat.blockOf blk1; rw [arr1]; try rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [arr1]; try rfl) t d).trans
    (by unfold Dat.fetched Dat.blockOf blk1; rw [arr1]; try rfl)
theorem before1_5 (c : Dev nD) (t : Fin cfg1.N) (d) : (dat1 V c).before 5 t d = blk1 V c 5 t :=
  ((dat1 V c).before_in_eq_fetched 5 rfl (fun _ => rfl) (fun _ _ _ => rfl) (fun t => by rw [after1_5]; unfold Dat.blockOf blk1; rw [arr1]; try rfl) t d).trans
    (by unfold Dat.fetched Dat.blockOf blk1; rw [arr1]; try rfl)

/-! ## The body at a point -/

/-- What the body is called with at point `t`, -/
def pre1 (c : Dev nD) (t : Fin cfg1.N) : sProp 𝕄 :=
  iprop((dat1 V c).Φ t.castSucc ∗ (dat1 V c).owesAt () t.castSucc
    ∗ (∃ d, owns (c : Thread nD τ) (stg1_0 t) fullShare ((dat1 V c).before 0 t d))
    ∗ (∃ d, owns (c : Thread nD τ) (stg1_1 t) fullShare ((dat1 V c).before 1 t d))
    ∗ (∃ d, owns (c : Thread nD τ) (stg1_2 t) fullShare ((dat1 V c).before 2 t d))
    ∗ (∃ d, owns (c : Thread nD τ) (stg1_3 t) fullShare ((dat1 V c).before 3 t d))
    ∗ (∃ d, owns (c : Thread nD τ) (stg1_4 t) fullShare ((dat1 V c).before 4 t d))
    ∗ (∃ d, owns (c : Thread nD τ) (stg1_5 t) fullShare ((dat1 V c).before 5 t d))
    ∗ (∃ d, owns (c : Thread nD τ) (stg1_6 t) fullShare ((dat1 V c).before 6 t d)))

/-- and what it returns. -/
def post1 (c : Dev nD) (t : Fin cfg1.N) : sProp 𝕄 :=
  iprop((dat1 V c).Φ t.succ ∗ (dat1 V c).owesAt () t.succ
    ∗ owns (c : Thread nD τ) (stg1_0 t) fullShare ((dat1 V c).after 0 t)
    ∗ owns (c : Thread nD τ) (stg1_1 t) fullShare ((dat1 V c).after 1 t)
    ∗ owns (c : Thread nD τ) (stg1_2 t) fullShare ((dat1 V c).after 2 t)
    ∗ owns (c : Thread nD τ) (stg1_3 t) fullShare ((dat1 V c).after 3 t)
    ∗ owns (c : Thread nD τ) (stg1_4 t) fullShare ((dat1 V c).after 4 t)
    ∗ owns (c : Thread nD τ) (stg1_5 t) fullShare ((dat1 V c).after 5 t)
    ∗ owns (c : Thread nD τ) (stg1_6 t) fullShare ((dat1 V c).after 6 t))

/-- The body at any point takes the contents before it to those after it. -/
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  unfold normAt
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run_norm c (grid1.coords t) _ _ _ _ _ _ _ _ _ _ _ _ _ _ (blk1 V c 0 t) (blk1 V c 1 t) (blk1 V c 2 t) (blk1 V c 3 t) (blk1 V c 4 t) (blk1 V c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The call's table row at point `t` is the body at that point. -/
theorem row1 (t : Fin cfg1.N) : defs₀ (F := F) .tc cfg1.body (cfg1.bodyArgs t (cfg1.slots t)) = bodyAt1 t := by
  unfold defs₀; rw [Defs.onTc_tc]

/-- The body meets its obligation at every point. -/
theorem obligation1 (c : Dev nD) : BodyObligation (dat1 (F := F) V c) (defs₀ (F := F)) Variants.none () Set.univ := fun t => by
  rw [bigSep_W1, bigSep_W1, row1]
  exact triple_restated (body1 V c t) rfl .rfl fun _ => .rfl

end Cert.KernelIdeal.Hand

end
-- ==== Proof.Run.lean ====
/- The whole program: the transpose and the two reshapes and the constant on the host, the two calls, and what every buffer
   holds at the end. From it: the arguments end unchanged, every semaphore ends at zero, and the result array holds what
   the second pipeline leaves. -/
module

public import proofs.«01_k».proof.Proof.KnnRegion
public import proofs.«01_k».proof.Proof.NormRegion

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments. -/
abbrev argRefs : List (Ref sig .tc) := [main_arg0, main_arg1, main_arg2, main_arg3, main_arg4, main_arg5, main_arg6]

/-! ## The host operations -/

theorem host0_fresh : (hostOps0 : List (HloOp τ sig (Elt F))).Forall fun op => op.fresh = ∅ := by
  simp only [List.Forall]; repeat' constructor
/-- What the operations before the first call write. -/
abbrev host0_W : List (Ref sig .tc) := [main_v0]
theorem host0_writes : (hostOps0 : List (HloOp τ sig (Elt F))).Forall fun op => op.writes ⊆ (host0_W.map (Proc.devRef (τ := τ) .tc)).toFinset :=
  StableHlo.forall_writes_sub_of_map rfl
theorem host0_args : ∀ a ∈ argRefs, a ∉ host0_W := ListAll.forall_mem_of_all_decide (by decide +kernel)

theorem host1_fresh : (hostOps1 : List (HloOp τ sig (Elt F))).Forall fun op => op.fresh = ∅ := by
  simp only [List.Forall]; repeat' constructor
/-- What the operations between the calls write. -/
abbrev host1_W : List (Ref sig .tc) := [main_cst, main_v2, main_v3, main_v4]
theorem host1_writes : (hostOps1 : List (HloOp τ sig (Elt F))).Forall fun op => op.writes ⊆ (host1_W.map (Proc.devRef (τ := τ) .tc)).toFinset :=
  StableHlo.forall_writes_sub_of_map rfl
theorem host1_args : ∀ a ∈ argRefs, a ∉ host1_W := ListAll.forall_mem_of_all_decide (by decide +kernel)

/-! ## The buffers' contents between the parts -/

/-- At launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- At the first call's entry. -/
abbrev W1 : Dev nD → Valuation τ sig (Elt F) := fun c => StableHlo.after hostOps0 (W0 m ρ c)
theorem W1_of (c : Dev nD) (r : Ref sig .tc) (h : r ∉ host0_W) : W1 m ρ c (Proc.devRef .tc r) = W0 m ρ c (Proc.devRef .tc r) :=
  StableHlo.after_of_writes_sub hostOps0 _ host0_writes h
theorem W1_args (c : Dev nD) : ∀ a ∈ argRefs, W1 m ρ c (Proc.devRef .tc a) = m ((c : Thread nD τ).loc a) :=
  fun a ha => (W1_of m ρ c a (host0_args a ha)).trans (W0_args m ρ c a ha)
/-- The same, at the core's references. -/
abbrev V1 : (c : Dev nD) → (b : Ref sig .tc) → Buf (Elt F) ((c : Thread nD τ).loc b) := fun c b => W1 m ρ c b
/-- At its exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is no output of the call keeps its contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (arr0 (V1 m ρ) c w))
  · exact W2_of_ne m ρ c r fun w e => hw ⟨w, e⟩
theorem args_in0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (args_in0 a ha)).trans (W1_args m ρ c a ha)
abbrev V2 : (c : Dev nD) → (b : Ref sig .tc) → Buf (Elt F) ((c : Thread nD τ).loc b) := fun c b => W2 m ρ c b
theorem exit0_arr (c : Dev nD) (w : Fin cfg0.W) : (dat0 (V1 m ρ) c).arrAt w cfg0.N = V2 m ρ c (Pipeline.arrRef spec0 w) :=
  (W2_arr m ρ c w).symm
theorem exit0_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's entry. -/
abbrev W3 : Dev nD → Valuation τ sig (Elt F) := fun c => StableHlo.after hostOps1 (W2 m ρ c)
theorem W3_of (c : Dev nD) (r : Ref sig .tc) (h : r ∉ host1_W) : W3 m ρ c (Proc.devRef .tc r) = W2 m ρ c (Proc.devRef .tc r) :=
  StableHlo.after_of_writes_sub hostOps1 _ host1_writes h
theorem W3_args (c : Dev nD) : ∀ a ∈ argRefs, W3 m ρ c (Proc.devRef .tc a) = m ((c : Thread nD τ).loc a) :=
  fun a ha => (W3_of m ρ c a (host1_args a ha)).trans (W2_args m ρ c a ha)
/-- The same, at the core's references. -/
abbrev V3 : (c : Dev nD) → (b : Ref sig .tc) → Buf (Elt F) ((c : Thread nD τ).loc b) := fun c b => W3 m ρ c b
/-- At its exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A buffer that is no output of the call keeps its contents across it. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (arr1 (V3 m ρ) c w))
  · exact W4_of_ne m ρ c r fun w e => hw ⟨w, e⟩
theorem args_in1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (args_in1 a ha)).trans (W3_args m ρ c a ha)
abbrev V4 : (c : Dev nD) → (b : Ref sig .tc) → Buf (Elt F) ((c : Thread nD τ).loc b) := fun c b => W4 m ρ c b
theorem exit1_arr (c : Dev nD) (w : Fin cfg1.W) : (dat1 (V3 m ρ) c).arrAt w cfg1.N = V4 m ρ c (Pipeline.arrRef spec1 w) :=
  (W4_arr m ρ c w).symm
theorem exit1_rest (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The segments -/

abbrev adm : (p : Fin 2) → (pcfgs (F := F) p).Adm := fun p => (cfgs p).toPCfg_adm
/-- The two pipelines' data. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev noDuty : GSem nD τ sig → Finset Unit := fun _ => ∅
abbrev noLevel : GSem nD τ sig → Unit → ℕ := fun _ _ => 0
/-- What stays beside the buffers throughout: the generator register and nothing owed. -/
abbrev beside (c : Dev nD) : sProp 𝕄 := iprop((∃ r, prngReg c r) ∗ ∃ W, owes (c : Thread nD τ) (0 : CellTallies nD τ sig Unit) W)
/-- A stretch of host operations from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ noDuty noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state at the end. -/
abbrev endState (c : Dev nD) : sProp 𝕄 := iprop(StableHlo.held (c : Thread nD τ) (Pipeline.ucRefs τ sig) (W4 m ρ c) ∗ ∃ r, prngReg c r)

set_option backward.isDefEq.respectTransparency.types false in
/-- The first call: entered with every unscoped buffer at `W1`, left with them at `W2`. -/
def reg0 : Pipeline.RegionSeg (pcfgs (F := F)) adm (pdats m ρ) () defs₀ 𝒱₀ noDuty noLevel 0 where
  win := launch0.win.to₀
  block_pos := launch0.block_pos
  stage_whole := launch0.stage_whole
  K := PEmpty
  osem k := k.elim
  ho := Pipeline.OwnSemFacts.none _
  hbody c := (obligation0 (V1 m ρ) c).loose
  hwaits := Pipeline.hwaits_of_owed_zero _ _ _ _ noDuty noLevel 0 fun _ _ => rfl
  pre c := iprop(StableHlo.held (c : Thread nD τ) (Pipeline.ucRefs τ sig) (W1 m ρ c) ∗ beside c)
  post c := iprop(StableHlo.held (c : Thread nD τ) (Pipeline.ucRefs τ sig) (W2 m ρ c) ∗ beside c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (arr0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (inv0_in (V1 m ρ) c)
    unfold Pipeline.ΦA
    iintro ⟨Hp, -, Hr⟩
    isplitl [Hr]; · iexact Hr
    iexact Hp
  hout c := by
    rw [Pipeline.ownSems0_none]
    refine .trans (inv0_out (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered with every unscoped buffer at `W3`, left with them at `W4`. -/
def reg1 : Pipeline.RegionSeg (pcfgs (F := F)) adm (pdats m ρ) () defs₀ 𝒱₀ noDuty noLevel 1 where
  win := launch1.win.to₀
  block_pos := launch1.block_pos
  stage_whole := launch1.stage_whole
  K := PEmpty
  osem k := k.elim
  ho := Pipeline.OwnSemFacts.none _
  hbody c := (obligation1 (V3 m ρ) c).loose
  hwaits := Pipeline.hwaits_of_owed_zero _ _ _ _ noDuty noLevel 1 fun _ _ => rfl
  pre c := iprop(StableHlo.held (c : Thread nD τ) (Pipeline.ucRefs τ sig) (W3 m ρ c) ∗ beside c)
  post c := iprop(endState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (arr1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's four parts in order. -/
abbrev segs : List (Pipeline.Seg (pcfgs (F := F)) adm (pdats m ρ) () defs₀ 𝒱₀ noDuty noLevel) :=
  [ .host (hseg hostOps0 hostOps0_sub host0_fresh (W0 m ρ)),
    .region (reg0 m ρ),
    .host (hseg hostOps1 hostOps1_sub host1_fresh (W2 m ρ)),
    .region (reg1 m ρ) ]

theorem main_run (c : Dev nD) : main (F := F) c = Pipeline.Seg.run (segs m ρ) := (main_chain c).trans (by chain_rfl)

theorem no_unscoped : ∀ sm : SemLoc sig, sm.isScoped .tc = true := by decide

/-! ## The run -/

set_option backward.isDefEq.respectTransparency.types false in
/-- Every run ends, with every unscoped buffer of every core at `W4` and every semaphore at zero. -/
theorem run_all : θ_run defs (onTc (τ := τ) (main (F := F))) ⟨m, fun _ => 0, ρ⟩ (fun r =>
      (∀ (c : Dev nD) (b : Ref sig .tc), ¬ (Proc.devRef .tc b : DevRef τ sig).isScoped →
        r.2.mem ((c.tc : Thread nD τ).loc b) = W4 m ρ c (Proc.devRef .tc b))
      ∧ r.2.sem = fun _ => 0) :=
  Pipeline.θ_run_regions_kit_sems (pcfgs (F := F)) adm (pdats m ρ) () cellOf_inj emb₁ defs₀ 𝒱₀ noDuty noLevel m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ beside c)) (Tₙ := endState m ρ)
    (hch := ⟨fun _ => .rfl, fun _ => .rfl, fun _ => .rfl, fun _ => .rfl, fun _ => .rfl⟩)
    (hinit := by
      refine Pipeline.initEach noDuty noLevel fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c b hb => h c _ (mem_uc b hb), funext fun g => hz g (.inr (no_unscoped g.2))⟩)

/-- Where a state's buffers are the last segment's, the arguments are as launched. -/
theorem args_kept {μ : (ℓ : Loc nD τ sig) → Buf (Elt F) ℓ} (c : Dev nD)
    (h : ∀ b : Ref sig .tc, ¬ (Proc.devRef .tc b : DevRef τ sig).isScoped → μ ((c.tc : Thread nD τ).loc b) = W4 m ρ c (Proc.devRef .tc b)) :
    μ ((c.tc : Thread nD τ).loc main_arg0) = m ((c.tc : Thread nD τ).loc main_arg0)
      ∧ μ ((c.tc : Thread nD τ).loc main_arg1) = m ((c.tc : Thread nD τ).loc main_arg1)
      ∧ μ ((c.tc : Thread nD τ).loc main_arg2) = m ((c.tc : Thread nD τ).loc main_arg2)
      ∧ μ ((c.tc : Thread nD τ).loc main_arg3) = m ((c.tc : Thread nD τ).loc main_arg3)
      ∧ μ ((c.tc : Thread nD τ).loc main_arg4) = m ((c.tc : Thread nD τ).loc main_arg4)
      ∧ μ ((c.tc : Thread nD τ).loc main_arg5) = m ((c.tc : Thread nD τ).loc main_arg5)
      ∧ μ ((c.tc : Thread nD τ).loc main_arg6) = m ((c.tc : Thread nD τ).loc main_arg6) :=
  ⟨(h main_arg0 (by decide)).trans (W4_args m ρ c main_arg0 (by decide)),
   (h main_arg1 (by decide)).trans (W4_args m ρ c main_arg1 (by decide)),
   (h main_arg2 (by decide)).trans (W4_args m ρ c main_arg2 (by decide)),
   (h main_arg3 (by decide)).trans (W4_args m ρ c main_arg3 (by decide)),
   (h main_arg4 (by decide)).trans (W4_args m ρ c main_arg4 (by decide)),
   (h main_arg5 (by decide)).trans (W4_args m ρ c main_arg5 (by decide)),
   (h main_arg6 (by decide)).trans (W4_args m ρ c main_arg6 (by decide))⟩

/-- Every run ends with the arguments as launched and every semaphore at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => args_kept m ρ c (h.1 c), h.2⟩) (run_all m ρ)

end Cert.KernelIdeal.Hand

end
-- ==== Proof.Frames.lean ====
/- The frame of the program as printed. It is the idealized program's text read with machine floats: no operation was
   rewritten, so the two programs' bodies and tables are the same, and the frame proved for the one at any floats is the
   other's. -/
module

public import proofs.«01_k».proof.Defs
public import proofs.«01_k».proof.Proof.Run
public import proofs.«01_k».proof.Proof.Gen.Kernel
public import proofs.«01_k».proof.Proof.Gen.Kernel.Launch
public import proofs.«01_k».proof.Proof.Gen.KernelIdeal
public import Idealize.ShloMosaic.Lib.Claim
public import Idealize.ShloMosaic.Lib.Tactic

@[expose] public section

noncomputable section

namespace Cert.Hand

open Idealize.ShloMosaic Idealize.ShloMosaic.Tactic Idealize.SL.Sem

variable {F : FTy → Type} [FloatOps F]

/-- The two programs' tables are the same. -/
theorem same_defs : (@Cert.Kernel.defs F _ Cert.Kernel.Gen.facts) = (@Cert.KernelIdeal.defs F _ Cert.KernelIdeal.Gen.facts) := by sl_kernel_rfl

/-- The two programs are the same. -/
theorem same_main : (@Cert.Kernel.main F _ Cert.Kernel.Gen.facts) = (@Cert.KernelIdeal.main F _ Cert.KernelIdeal.Gen.facts) := by sl_kernel_rfl

/-- The printed program's frame. -/
theorem quiet_Kernel : @Cert.quiescent_Kernel Cert.Kernel.Gen.facts := by
  intro m g _
  rw [same_defs, same_main]
  exact Cert.KernelIdeal.Hand.quiet (F := Bits) m g

end Cert.Hand

end
-- ==== Proof.Maths.lean ====
/- The mathematics of the certificate, on plain functions: the literals, three rounds of "take the smallest and strike it
   out", the weights of the three nearest, and real numbers among the extended reals. -/
module

public import Idealize.ShloMosaic.Lib.IdealHost

@[expose] public section

noncomputable section

namespace Cert.Hand

open Idealize.ShloMosaic

/-! ## The literals -/

theorem word_inf : Ideal.ofBits .f32 0x7F800000#32 = ⊤ := by
  simp [Ideal.ofBits, Ideal.ieee]

theorem word_neg_two : Ideal.ofBits .f32 0xC0000000#32 = ((-2 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_count : Ideal.ofBits .f32 0x47000000#32 = ((32768 : ℝ) : EReal) := by
  simp [Ideal.ofBits, Ideal.ieee, -EReal.coe_mul]; norm_num

theorem word_small : ∃ e : ℝ, 0 < e ∧ Ideal.ofBits .f32 0x322BCC77#32 = (e : EReal) := by
  refine ⟨_, ?_, by simp [Ideal.ofBits, Ideal.ieee, -EReal.coe_mul]; rfl⟩
  positivity

theorem word_eps : ∃ e : ℝ, 0 < e ∧ Ideal.ofBits .f32 0x3727C5AC#32 = (e : EReal) := by
  refine ⟨_, ?_, by simp [Ideal.ofBits, Ideal.ieee, -EReal.coe_mul]; rfl⟩
  positivity

/-! ## Three rounds of the minimum -/

/-- The smallest of finitely many values, `⊤` of none. -/
def low {n : ℕ} (f : Fin n → EReal) : EReal := Finset.univ.fold min (Ideal.ofBits .f32 0x7F800000#32) f

/-- The values with the smallest struck out. -/
def struck {n : ℕ} (f : Fin n → EReal) : Fin n → EReal :=
  fun s => if f s ≤ low f then Ideal.ofBits .f32 0x7F800000#32 else f s

/-- The inverse distance weight of a squared distance. -/
def wt (x : EReal) : EReal := Ideal.div 1 (max x 0 + Ideal.ofBits .f32 0x322BCC77#32)

/-- The weights three rounds leave: round `k`'s weight where the entry is at most round `k`'s minimum. -/
def rowWt {n : ℕ} (f : Fin n → EReal) (d : EReal) (s : Fin n) : EReal :=
  if struck (struck f) s ≤ low (struck (struck f)) then wt (low (struck (struck f)) + d)
  else if struck f s ≤ low (struck f) then wt (low (struck f) + d)
  else if f s ≤ low f then wt (low f + d) else 0

/-- `p`, `q`, `r` hold the three smallest values, in order and with no ties. -/
structure Nearest {n : ℕ} (f : Fin n → EReal) (p q r : Fin n) : Prop where
  pq : f p < f q
  qr : f q < f r
  rest : ∀ s, s ≠ p → s ≠ q → s ≠ r → f r < f s

theorem low_eq {n : ℕ} {f : Fin n → EReal} (p : Fin n) (h : ∀ s, f p ≤ f s) : low f = f p := by
  unfold low
  rw [word_inf]
  refine le_antisymm ((Finset.fold_min_le _).mpr (Or.inr ⟨p, Finset.mem_univ _, le_rfl⟩)) ?_
  exact (Finset.le_fold_min _).mpr ⟨le_top, fun s _ => h s⟩

theorem struck_eq {n : ℕ} {f : Fin n → EReal} (p : Fin n) (h : ∀ s, s ≠ p → f p < f s) :
    struck f = fun s => if s = p then ⊤ else f s := by
  have hl : low f = f p := low_eq p fun s => by
    by_cases e : s = p
    · rw [e]
    · exact (h s e).le
  funext s
  unfold struck
  rw [hl, word_inf]
  by_cases e : s = p
  · simp [e]
  · simp [e, h s e]

namespace Nearest

variable {n : ℕ} {f : Fin n → EReal} {p q r : Fin n} (h : Nearest f p q r)
include h

theorem ne_pq : p ≠ q := fun e => by have := h.pq; rw [e] at this; exact lt_irrefl _ this
theorem ne_qr : q ≠ r := fun e => by have := h.qr; rw [e] at this; exact lt_irrefl _ this
theorem ne_pr : p ≠ r := fun e => by have := h.pq.trans h.qr; rw [e] at this; exact lt_irrefl _ this

theorem first (s : Fin n) (e : s ≠ p) : f p < f s := by
  by_cases e1 : s = q
  · rw [e1]; exact h.pq
  · by_cases e2 : s = r
    · rw [e2]; exact h.pq.trans h.qr
    · exact (h.pq.trans h.qr).trans (h.rest s e e1 e2)

theorem second (s : Fin n) (e : s ≠ p) (e1 : s ≠ q) : f q < f s := by
  by_cases e2 : s = r
  · rw [e2]; exact h.qr
  · exact h.qr.trans (h.rest s e e1 e2)

theorem struck_one : struck f = fun s => if s = p then ⊤ else f s := struck_eq p h.first

theorem struck_two : struck (struck f) = fun s => if s = q then ⊤ else if s = p then ⊤ else f s := by
  rw [h.struck_one]
  refine struck_eq q fun s e => ?_
  rw [if_neg h.ne_pq.symm]
  by_cases e1 : s = p
  · rw [if_pos e1]; exact lt_of_lt_of_le h.qr le_top
  · rw [if_neg e1]; exact h.second s e1 e

theorem low_one : low f = f p := low_eq p fun s => by
  by_cases e : s = p
  · rw [e]
  · exact (h.first s e).le

theorem low_two : low (struck f) = f q := by
  rw [h.struck_one, low_eq q, if_neg h.ne_pq.symm]
  intro s
  rw [if_neg h.ne_pq.symm]
  by_cases e : s = p
  · rw [if_pos e]; exact le_top
  · rw [if_neg e]
    by_cases e1 : s = q
    · rw [e1]
    · exact (h.second s e e1).le

theorem low_three : low (struck (struck f)) = f r := by
  rw [h.struck_two, low_eq r, if_neg h.ne_qr.symm, if_neg h.ne_pr.symm]
  intro s
  rw [if_neg h.ne_qr.symm, if_neg h.ne_pr.symm]
  by_cases e : s = q
  · rw [if_pos e]; exact le_top
  · rw [if_neg e]
    by_cases e1 : s = p
    · rw [if_pos e1]; exact le_top
    · rw [if_neg e1]
      by_cases e2 : s = r
      · rw [e2]
      · exact (h.rest s e1 e e2).le

/-- Three rounds weigh the three nearest, each by its own distance, and nothing else — when the third value is not
    the last word, `f r < ⊤`. -/
theorem rowWt_eq (hr : f r < ⊤) (d : EReal) (s : Fin n) :
    rowWt f d s = if s = r then wt (f r + d) else if s = q then wt (f q + d)
      else if s = p then wt (f p + d) else 0 := by
  have c1 : f s ≤ low f ↔ s = p := by
    rw [h.low_one]
    by_cases e : s = p
    · simp [e]
    · simp [e, h.first s e]
  have c2 : struck f s ≤ low (struck f) ↔ s = q := by
    rw [h.low_two, congrFun h.struck_one s]
    by_cases e1 : s = q
    · simp [e1, h.ne_pq.symm]
    · by_cases e : s = p
      · simp [e, h.ne_pq, lt_top_iff_ne_top.mp (h.qr.trans hr)]
      · simp [e, e1, h.second s e e1]
  have c3 : struck (struck f) s ≤ low (struck (struck f)) ↔ s = r := by
    rw [h.low_three, congrFun h.struck_two s]
    by_cases e2 : s = r
    · simp [e2, h.ne_qr.symm, h.ne_pr.symm]
    · by_cases e1 : s = q
      · simp [e1, h.ne_qr, lt_top_iff_ne_top.mp hr]
      · by_cases e : s = p
        · simp [e, h.ne_pr, lt_top_iff_ne_top.mp hr]
        · simp [e, e1, e2, h.rest s e e1 e2]
  unfold rowWt
  simp only [c1, c2, c3]
  rw [h.low_three, h.low_two, h.low_one]

/-- So a sum against the weights is three terms. -/
theorem sum_rowWt (hr : f r < ⊤) (d : EReal) (c : Fin n → EReal) :
    ∑ s, c s * rowWt f d s = c p * wt (f p + d) + c q * wt (f q + d) + c r * wt (f r + d) := by
  classical
  have hs : ∀ s, s ∉ ({p, q, r} : Finset (Fin n)) → c s * rowWt f d s = 0 := by
    intro s hm
    simp only [Finset.mem_insert, Finset.mem_singleton, not_or] at hm
    rw [h.rowWt_eq hr, if_neg hm.2.2, if_neg hm.2.1, if_neg hm.1, mul_zero]
  rw [← Finset.sum_subset (Finset.subset_univ ({p, q, r} : Finset (Fin n))) fun s _ hm => hs s hm]
  rw [Finset.sum_insert (by simp [h.ne_pq, h.ne_pr]), Finset.sum_insert (by simp [h.ne_qr]), Finset.sum_singleton]
  rw [h.rowWt_eq hr, h.rowWt_eq hr, h.rowWt_eq hr, if_pos rfl, if_neg h.ne_qr, if_pos rfl, if_neg h.ne_pr, if_neg h.ne_pq,
    if_pos rfl, add_assoc]

end Nearest

/-! ## Real numbers among the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real {x y : ℝ} (h : y ≠ 0) : Ideal.div (x : EReal) (y : EReal) = ((x / y : ℝ) : EReal) := by
  rw [Ideal.div_coe h, ← EReal.coe_mul, mul_one_div]

/-- The weight of a real squared distance is a positive real. -/
theorem wt_real (x : ℝ) : ∃ w : ℝ, 0 < w ∧ wt (x : EReal) = (w : EReal) := by
  obtain ⟨e, he, hw⟩ := word_small
  have hp : 0 < max x 0 + e := add_pos_of_nonneg_of_pos (le_max_right _ _) he
  refine ⟨1 / (max x 0 + e), by positivity, ?_⟩
  have hm : max (x : EReal) 0 = ((max x 0 : ℝ) : EReal) := by
    rcases le_total x 0 with h | h
    · rw [max_eq_right h, max_eq_right (by exact_mod_cast h)]; rfl
    · rw [max_eq_left h, max_eq_left (by exact_mod_cast h)]
  unfold wt
  rw [hw, hm, ← EReal.coe_add, ← EReal.coe_one, div_real hp.ne']

end Cert.Hand

end
-- ==== Proof.KnnValue.lean ====
/- The first call's block of features over the extended reals: entry (o, j) of what a grid point computes, in terms of
   the squared distances of dense point j to the sparse points. -/
module

public import proofs.«01_k».proof.Proof.Maths
public import proofs.«01_k».proof.Proof.KnnBody
public import Idealize.ShloMosaic.Lib.Pointwise

@[expose] public section

set_option maxRecDepth 16384

noncomputable section

namespace Cert.KernelIdeal.Hand

open Idealize.ShloMosaic Idealize.ShloMosaic.TcCoe
open Cert.KernelIdeal Cert.KernelIdeal.Gen Cert.Hand

/-! ## The vector operations of a round, at an entry -/

theorem strike_at (T A B : FVec Ideal S2048x2048 .f32) (v : FVec Ideal S1x2048 .f32) (s j : Fin 2048) :
    select (cmpf .ole T (broadcastTo S2048x2048 v broadcasts_S1x2048_S2048x2048)) A B (ix2 s j)
      = if T (ix2 s j) ≤ v (ix2 0 j) then A (ix2 s j) else B (ix2 s j) := by
  pointwise

theorem spread_at (v : FVec Ideal S1x2048 .f32) (s j : Fin 2048) :
    broadcastTo S2048x2048 v broadcasts_S1x2048_S2048x2048 (ix2 s j) = v (ix2 0 j) := by
  pointwise

theorem recast (v : FVec Ideal S1x2048 .f32) : shapeCast S1x2048 v shapeCasts_S1x2048_S1x2048 = v := by
  funext j
  idx_vars j
  pointwise

theorem spread64_at (v : FVec Ideal S1x2048 .f32) (o : Fin 64) (j : Fin 2048) :
    broadcastTo S64x2048 v broadcasts_S1x2048_S64x2048 (ix2 o j) = v (ix2 0 j) := by
  pointwise

theorem low_at (T : FVec Ideal S2048x2048 .f32) (j : Fin 2048) :
    shapeCast S1x2048 (multiReduction .minimumf [0] S2048 T 0x7F800000#32 reduces_S2048x2048_S2048 (.inl rfl) rfl)
      shapeCasts_S2048_S1x2048 (ix2 0 j) = low fun s => T (ix2 s j) := by
  pointwise [low]

theorem weigh_at (m : FVec Ideal S1x2048 .f32) (j : Fin 2048) :
    divf (broadcast S1x2048 (Scalar.ofBits .f32 0x3F800000#32 : Ideal .f32))
      (addf (maximumf m (broadcast S1x2048 (Scalar.ofBits .f32 0x00000000#32 : Ideal .f32)))
        (broadcast S1x2048 (Scalar.ofBits .f32 0x322BCC77#32 : Ideal .f32))) (ix2 0 j)
      = wt (m (ix2 0 j)) := by
  pointwise [wt]

theorem plus_at (m d : FVec Ideal S1x2048 .f32) (j : Fin 2048) : addf m d (ix2 0 j) = m (ix2 0 j) + d (ix2 0 j) := rfl

theorem project_at (A : FVec Ideal S72x2048 .f32) (B : FVec Ideal S2048x2048 .f32) (r : Fin 72) (j : Fin 2048) :
    matmul dot_S72x2048_S2048x2048_S72x2048_1_0_0_1_n_n none A B (constant S72x2048 .f32 0x00000000#32) (ix2 r j)
      = ∑ s : Fin 2048, A (ix2 r s) * B (ix2 s j) := by
  pointwise

theorem row64_at (A : FVec Ideal S72x2048 .f32) (j : Fin 2048) :
    extractStridedSlice S1x2048 ![64, 0] A slices_S72x2048_o64_0_S1x2048 (ix2 0 j) = A (ix2 64 j) := by
  pointwise

theorem rows_at (A : FVec Ideal S72x2048 .f32) (o : Fin 64) (j : Fin 2048) :
    extractStridedSlice S64x2048 ![0, 0] A slices_S72x2048_o0_0_S64x2048 (ix2 o j) = A (ix2 ⟨o.val, by omega⟩ j) := by
  pointwise

theorem dense_at (A : FVec Ideal S64x64 .f32) (x : FVec Ideal S1x64x2048 .f32) (o : Fin 64) (j : Fin 2048) :
    matmul dot_S64x64_S64x2048_S64x2048_1_0_0_1_n_n none A (shapeCast S64x2048 x shapeCasts_S1x64x2048_S64x2048)
      (constant S64x2048 .f32 0x00000000#32) (ix2 o j) = ∑ k : Fin 64, A (ix2 o k) * x (ix3 0 k j) := by
  pointwise

theorem head_at (x4 : FVec Ideal S64x192 .f32) (o k : Fin 64) :
    View.ld (Val := Elt Ideal) (e' := .f32) x4 (Rect.unit (s := S64x192) ![0, 0] S64x64.size inb_S64x192_S64x64_0_0) (ix2 o k)
      = x4 (ix2 o ⟨k.val, by omega⟩) := by
  pointwise

theorem tail_at (x4 : FVec Ideal S64x192 .f32) (o : Fin 64) (k : Fin 128) :
    View.ld (Val := Elt Ideal) (e' := .f32) x4 (Rect.unit (s := S64x192) ![0, 64] S64x128.size inb_S64x192_S64x128_0_64) (ix2 o k)
      = x4 (ix2 o ⟨64 + k.val, by omega⟩) := by
  pointwise

/-! ## The rounds -/

variable (x0 : FVec Ideal S1x3x2048 .f32) (x1 : FVec Ideal S1x2048x3 .f32)

/-- The dense point's squared norm. -/
def dsq (j : Fin 2048) : EReal := ∑ k : Fin 3, x0 (ix3 0 k j) * x0 (ix3 0 k j)

/-- The rest of the squared distance of dense point `j` to sparse point `s`. -/
def part (j s : Fin 2048) : EReal :=
  ∑ k : Fin 3, x1 (ix3 0 s k) * x1 (ix3 0 s k) + ∑ k : Fin 3, x1 (ix3 0 s k) * (x0 (ix3 0 k j) * Ideal.ofBits .f32 0xC0000000#32)

theorem pay9_at (j : Fin 2048) : k0_pay9 (F := Ideal) x0 (ix2 0 j) = dsq x0 j := by
  pointwise [k0_pay9, k0_pay8, dsq]

theorem pay10_at (s j : Fin 2048) : k0_pay10 (F := Ideal) x0 x1 (ix2 s j) = part x0 x1 j s := by
  pointwise [k0_pay10, k0_pay8, part]

theorem pay11_at (j : Fin 2048) : k0_pay11 (F := Ideal) x0 x1 (ix2 0 j) = low (part x0 x1 j) :=
  (low_at (k0_pay10 (F := Ideal) x0 x1) j).trans (congrArg low (funext fun s => pay10_at x0 x1 s j))

theorem pay14_at (s j : Fin 2048) : k0_pay14 (F := Ideal) x0 x1 (ix2 s j) = struck (part x0 x1 j) s := by
  unfold k0_pay14 k0_pay12
  rw [strike_at, pay10_at, pay11_at]
  rfl

theorem pay15_at (j : Fin 2048) : k0_pay15 (F := Ideal) x0 x1 (ix2 0 j) = low (struck (part x0 x1 j)) :=
  (low_at (k0_pay14 (F := Ideal) x0 x1) j).trans (congrArg low (funext fun s => pay14_at x0 x1 s j))

theorem pay13_at (s j : Fin 2048) : k0_pay13 (F := Ideal) x0 x1 (ix2 s j)
    = if part x0 x1 j s ≤ low (part x0 x1 j) then wt (low (part x0 x1 j) + dsq x0 j) else 0 := by
  unfold k0_pay13 k0_pay12
  rw [strike_at, pay10_at, pay11_at, recast, spread_at, weigh_at, plus_at, pay11_at, pay9_at]
  exact congrArg _ (Ideal.ofBits_zero_f32)

/-! ## The block -/

/-- The weights after the third round, a matrix. -/
def weights (v12 : FVec Ideal S1x2048 .f32) (v32 v34 : FVec Ideal S2048x2048 .f32) (v36 v37 : FVec Ideal S1x2048 .f32) :
    FVec Ideal S2048x2048 .f32 :=
  let v50 := select (cmpf .ole v34 (broadcastTo S2048x2048 v36 broadcasts_S1x2048_S2048x2048))
    (broadcast S2048x2048 (Scalar.ofBits .f32 0x7F800000#32 : Ideal .f32)) v34
  let v52 := shapeCast S1x2048 (multiReduction .minimumf [0] S2048 v50 0x7F800000#32 reduces_S2048x2048_S2048 (.inl rfl) rfl)
      shapeCasts_S2048_S1x2048
  select (cmpf .ole v50 (broadcastTo S2048x2048 v52 broadcasts_S1x2048_S2048x2048))
    (broadcastTo S2048x2048 (shapeCast S1x2048 (divf (broadcast S1x2048 (Scalar.ofBits .f32 0x3F800000#32 : Ideal .f32))
      (addf (maximumf (addf v52 v12) (broadcast S1x2048 (Scalar.ofBits .f32 0x00000000#32 : Ideal .f32)))
        (broadcast S1x2048 (Scalar.ofBits .f32 0x322BCC77#32 : Ideal .f32)))) shapeCasts_S1x2048_S1x2048) broadcasts_S1x2048_S2048x2048)
    (select (cmpf .ole v34 (broadcastTo S2048x2048 v36 broadcasts_S1x2048_S2048x2048))
      (broadcastTo S2048x2048 (shapeCast S1x2048 (divf (broadcast S1x2048 (Scalar.ofBits .f32 0x3F800000#32 : Ideal .f32))
        (addf (maximumf v37 (broadcast S1x2048 (Scalar.ofBits .f32 0x00000000#32 : Ideal .f32)))
          (broadcast S1x2048 (Scalar.ofBits .f32 0x322BCC77#32 : Ideal .f32)))) shapeCasts_S1x2048_S1x2048) broadcasts_S1x2048_S2048x2048) v32)

/-- The second round's values: the first round's, with the smallest struck out. -/
def second (v34 : FVec Ideal S2048x2048 .f32) (v36 : FVec Ideal S1x2048 .f32) (j s : Fin 2048) : EReal :=
  if v34 (ix2 s j) ≤ v36 (ix2 0 j) then Ideal.ofBits .f32 0x7F800000#32 else v34 (ix2 s j)

theorem second_at (v34 : FVec Ideal S2048x2048 .f32) (v36 : FVec Ideal S1x2048 .f32) (j s : Fin 2048) :
    select (cmpf .ole v34 (broadcastTo S2048x2048 v36 broadcasts_S1x2048_S2048x2048))
      (broadcast S2048x2048 (Scalar.ofBits .f32 0x7F800000#32 : Ideal .f32)) v34 (ix2 s j) = second v34 v36 j s := by
  rw [strike_at]; rfl

theorem weights_gen (v12 : FVec Ideal S1x2048 .f32) (v32 v34 : FVec Ideal S2048x2048 .f32) (v36 v37 : FVec Ideal S1x2048 .f32)
    (s j : Fin 2048) :
    weights v12 v32 v34 v36 v37 (ix2 s j)
      = if second v34 v36 j s ≤ low (second v34 v36 j) then wt (low (second v34 v36 j) + v12 (ix2 0 j))
        else if v34 (ix2 s j) ≤ v36 (ix2 0 j) then wt (v37 (ix2 0 j)) else v32 (ix2 s j) := by
  have h52 := (low_at (select (cmpf .ole v34 (broadcastTo S2048x2048 v36 broadcasts_S1x2048_S2048x2048))
      (broadcast S2048x2048 (Scalar.ofBits .f32 0x7F800000#32 : Ideal .f32)) v34) j).trans
    (congrArg low (funext fun s' => second_at v34 v36 j s'))
  refine (strike_at _ _ _ _ s j).trans ?_
  rw [h52, second_at, recast, spread_at, weigh_at, plus_at, h52, strike_at, recast, spread_at, weigh_at]

theorem weights_at (s j : Fin 2048) :
    weights (k0_pay9 (F := Ideal) x0) (k0_pay13 (F := Ideal) x0 x1) (k0_pay14 (F := Ideal) x0 x1) (k0_pay15 (F := Ideal) x0 x1)
      (k0_pay16 (F := Ideal) x0 x1) (ix2 s j) = rowWt (part x0 x1 j) (dsq x0 j) s := by
  have h2 : second (k0_pay14 (F := Ideal) x0 x1) (k0_pay15 (F := Ideal) x0 x1) j = struck (struck (part x0 x1 j)) := by
    funext s'
    unfold second
    rw [pay14_at, pay15_at]
    rfl
  have h16 : k0_pay16 (F := Ideal) x0 x1 (ix2 0 j) = low (struck (part x0 x1 j)) + dsq x0 j := by
    unfold k0_pay16
    rw [plus_at, pay15_at, pay9_at]
  rw [weights_gen, h2, h16, pay9_at, pay14_at, pay15_at, pay13_at]
  rfl

theorem pay17_eq (v12 : FVec Ideal S1x2048 .f32) (v32 v34 : FVec Ideal S2048x2048 .f32) (v36 v37 : FVec Ideal S1x2048 .f32)
    (S : FVec Ideal S72x2048 .f32) (H : FVec Ideal S64x64 .f32) (x2 : FVec Ideal S1x64x2048 .f32) :
    k0_pay17 v12 v32 v34 v36 v37 S H x2
      = addf (matmul dot_S64x64_S64x2048_S64x2048_1_0_0_1_n_n none H (shapeCast S64x2048 x2 shapeCasts_S1x64x2048_S64x2048)
          (constant S64x2048 .f32 0x00000000#32))
        (mulf (extractStridedSlice S64x2048 ![0, 0] (matmul dot_S72x2048_S2048x2048_S72x2048_1_0_0_1_n_n none S
            (weights v12 v32 v34 v36 v37) (constant S72x2048 .f32 0x00000000#32)) slices_S72x2048_o0_0_S64x2048)
          (broadcastTo S64x2048 (divf (broadcast S1x2048 (Scalar.ofBits .f32 0x3F800000#32 : Ideal .f32))
            (extractStridedSlice S1x2048 ![64, 0] (matmul dot_S72x2048_S2048x2048_S72x2048_1_0_0_1_n_n none S
              (weights v12 v32 v34 v36 v37) (constant S72x2048 .f32 0x00000000#32)) slices_S72x2048_o64_0_S1x2048))
            broadcasts_S1x2048_S64x2048)) := rfl

theorem one_over_at (v : FVec Ideal S1x2048 .f32) (j : Fin 2048) :
    divf (broadcast S1x2048 (Scalar.ofBits .f32 0x3F800000#32 : Ideal .f32)) v (ix2 0 j) = Ideal.div 1 (v (ix2 0 j)) := by
  pointwise

theorem affine_at (A B C : FVec Ideal S64x2048 .f32) (o : Fin 64) (j : Fin 2048) :
    addf A (mulf B C) (ix2 o j) = A (ix2 o j) + B (ix2 o j) * C (ix2 o j) := rfl

/-- Entry (o, j) of the block: the dense features' part, and the interpolated part divided by the sum of the weights. -/
theorem feats_at (x2 : FVec Ideal S1x64x2048 .f32) (x4 : FVec Ideal S64x192 .f32) (S : FVec Ideal S72x2048 .f32)
    (o : Fin 64) (j : Fin 2048) :
    feats (F := Ideal) x0 x1 x2 x4 S (ix2 o j)
      = ∑ k : Fin 64, x4 (ix2 o ⟨k.val, by omega⟩) * x2 (ix3 0 k j)
        + (∑ s : Fin 2048, S (ix2 ⟨o.val, by omega⟩ s) * rowWt (part x0 x1 j) (dsq x0 j) s)
          * Ideal.div 1 (∑ s : Fin 2048, S (ix2 64 s) * rowWt (part x0 x1 j) (dsq x0 j) s) := by
  unfold feats
  rw [pay17_eq, affine_at, dense_at, rows_at, project_at, spread64_at, one_over_at, row64_at, project_at]
  exact congrArg₂ (· + ·) (Finset.sum_congr rfl fun k _ => congrArg (· * _) (head_at x4 o k))
    (congrArg₂ (· * ·) (Finset.sum_congr rfl fun s _ => congrArg (_ * ·) (weights_at x0 x1 s j))
      (congrArg (Ideal.div 1 ·) (Finset.sum_congr rfl fun s _ => congrArg (_ * ·) (weights_at x0 x1 s j))))

/-! ## The scratch -/

theorem pay6_at (A : FVec Ideal S64x128 .f32) (x3 : FVec Ideal S1x128x2048 .f32) (o : Fin 64) (s : Fin 2048) :
    k0_pay6 A x3 (ix2 o s) = ∑ k : Fin 128, A (ix2 o k) * x3 (ix3 0 k s) := by
  pointwise [k0_pay6]

theorem pay7_at (r : Fin 8) (s : Fin 2048) : k0_pay7 (F := Ideal) (ix2 r s) = 1 := by
  pointwise [k0_pay7]

theorem scratch_ones (x3 : FVec Ideal S1x128x2048 .f32) (x4 : FVec Ideal S64x192 .f32) (s : Fin 2048) :
    scratch (F := Ideal) x3 x4 (ix2 64 s) = 1 := by
  unfold scratch
  have e : (ix2 64 s : S72x2048.Idx) = (Rect.unit (s := S72x2048) ![64, 0] S8x2048.size inb_S72x2048_S8x2048_64_0).emb (ix2 (0 : Fin 8) s) := by
    funext a; apply Fin.ext; fin_cases a <;> simp [Rect.unit, Rect.emb, ix2]
  rw [e, View.canon_cons_emb]
  exact pay7_at 0 s

theorem scratch_rows (x3 : FVec Ideal S1x128x2048 .f32) (x4 : FVec Ideal S64x192 .f32) (o : Fin 64) (s : Fin 2048) :
    scratch (F := Ideal) x3 x4 (ix2 ⟨o.val, by omega⟩ s)
      = ∑ k : Fin 128, x4 (ix2 o ⟨64 + k.val, by omega⟩) * x3 (ix3 0 k s) := by
  unfold scratch
  have e : (ix2 ⟨o.val, by omega⟩ s : S72x2048.Idx)
      = (Rect.unit (s := S72x2048) ![0, 0] S64x2048.size inb_S72x2048_S64x2048_0_0).emb (ix2 o s) := by
    funext a; apply Fin.ext; fin_cases a <;> simp [Rect.unit, Rect.emb, ix2]
  rw [View.canon_cons_of_not_mem, e, View.canon_cons_emb]
  · exact (pay6_at _ x3 o s).trans (Finset.sum_congr rfl fun k _ => congrArg (· * _) (tail_at x4 o k))
  · intro hm
    have h : (64 : ℕ) ≤ o.val :=
      ((Rect.mem_set_unit (inb := inb_S72x2048_S8x2048_64_0)
        (i := (ix2 ⟨o.val, by omega⟩ s : S72x2048.Idx))).mp hm 0).1
    have := o.isLt
    omega

end Cert.KernelIdeal.Hand

end
-- ==== Proof.Arrays.lean ====
/- The arrays the first call leaves, over the extended reals, entry by entry: the features of every point, their total and
   the total of their squares. The region's entry contents `V` are a parameter. -/
module

public import proofs.«01_k».proof.Proof.KnnValue
public import proofs.«01_k».proof.Proof.Run
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window)
open Cert.KernelIdeal.Gen Cert.Hand

/-! ## The features of every point, from the arrays -/

section closed
variable (x0 : FVec Ideal S4x3x8192 .f32) (x1 : FVec Ideal S4x2048x3 .f32) (x2 : FVec Ideal S4x64x8192 .f32)
  (x3 : FVec Ideal S4x128x2048 .f32) (x4 : FVec Ideal S64x192 .f32)

/-- The squared length of dense point (b, n), -/
def kdsq (b : Fin 4) (n : Fin 8192) : EReal := ∑ k : Fin 3, x0 (ix3 b k n) * x0 (ix3 b k n)
/-- the rest of its squared distance from sparse point `s`, -/
def kpart (b : Fin 4) (n : Fin 8192) (s : Fin 2048) : EReal :=
  ∑ k : Fin 3, x1 (ix3 b s k) * x1 (ix3 b s k)
    + ∑ k : Fin 3, x1 (ix3 b s k) * (x0 (ix3 b k n) * Ideal.ofBits .f32 0xC0000000#32)
/-- and its features. -/
def kfeat (b : Fin 4) (o : Fin 64) (n : Fin 8192) : EReal :=
  ∑ k : Fin 64, x4 (ix2 o ⟨k.val, by omega⟩) * x2 (ix3 b k n)
    + (∑ s : Fin 2048, (∑ k : Fin 128, x4 (ix2 o ⟨64 + k.val, by omega⟩) * x3 (ix3 b k s))
        * rowWt (kpart x0 x1 b n) (kdsq x0 b n) s)
      * Ideal.div 1 (∑ s : Fin 2048, 1 * rowWt (kpart x0 x1 b n) (kdsq x0 b n) s)
end closed

/-! ## The blocks -/

variable (V : (c : Dev nD) → (b : Ref sig .tc) → Buf (Elt Ideal) ((c : Thread nD τ).loc b))

/-- The arrays as the region finds them. -/
abbrev arrA (c : Dev nD) : FVec Ideal S4x3x8192 .f32 := V c main_arg0
abbrev arrB (c : Dev nD) : FVec Ideal S4x2048x3 .f32 := V c main_v0
abbrev arrC (c : Dev nD) : FVec Ideal S4x64x8192 .f32 := V c main_arg2
abbrev arrD (c : Dev nD) : FVec Ideal S4x128x2048 .f32 := V c main_arg3
abbrev arrE (c : Dev nD) : FVec Ideal S64x192 .f32 := V c main_arg4

theorem N16 : cfg0.N = 16 := N_0

/-- The batch of a grid point, -/
def batchOf (t : Fin cfg0.N) : Fin 4 := ⟨t.val / 4, by have : t.val < 16 := lt_of_lt_of_eq t.isLt N16; omega⟩
/-- and the dense point at place `j` of its block. -/
def pointOf (t : Fin cfg0.N) (j : Fin 2048) : Fin 8192 := ⟨2048 * (t.val % 4) + j.val, by omega⟩

theorem index0_0 : ∀ t : Fin cfg0.N, win0_0.index t = ![t.val / 4, 0, t.val % 4] :=
  (by decide +kernel : ∀ t : Fin grid0.N, win0_0.index t = ![t.val / 4, 0, t.val % 4])
theorem index0_1 : ∀ t : Fin cfg0.N, win0_1.index t = ![t.val / 4, 0, 0] :=
  (by decide +kernel : ∀ t : Fin grid0.N, win0_1.index t = ![t.val / 4, 0, 0])
theorem index0_2 : ∀ t : Fin cfg0.N, win0_2.index t = ![t.val / 4, 0, t.val % 4] :=
  (by decide +kernel : ∀ t : Fin grid0.N, win0_2.index t = ![t.val / 4, 0, t.val % 4])
theorem index0_3 : ∀ t : Fin cfg0.N, win0_3.index t = ![t.val / 4, 0, 0] :=
  (by decide +kernel : ∀ t : Fin grid0.N, win0_3.index t = ![t.val / 4, 0, 0])
theorem index0_4 : ∀ t : Fin cfg0.N, win0_4.index t = ![0, 0] :=
  (by decide +kernel : ∀ t : Fin grid0.N, win0_4.index t = ![0, 0])
theorem index0_5 : ∀ t : Fin cfg0.N, win0_5.index t = ![t.val / 4, 0, t.val % 4] :=
  (by decide +kernel : ∀ t : Fin grid0.N, win0_5.index t = ![t.val / 4, 0, t.val % 4])

theorem inA_at (c : Dev nD) (t : Fin cfg0.N) (k : Fin 3) (j : Fin 2048) :
    inA V c t (ix3 0 k j) = arrA V c (ix3 (batchOf t) k (pointOf t j)) := by
  refine congrArg (arrA V c) (?_ : (win0_0.rect t).emb (ix3 0 k j) = ix3 (batchOf t) k (pointOf t j))
  funext a; apply Fin.ext
  refine (Pipeline.Window.rect_emb_val win0_0 t _ a).trans ?_
  rw [index0_0]
  match a with
  | ⟨0, _⟩ => show t.val / 4 * 1 + 0 = t.val / 4; omega
  | ⟨1, _⟩ => show 0 * 3 + k.val = k.val; omega
  | ⟨2, _⟩ => show t.val % 4 * 2048 + j.val = 2048 * (t.val % 4) + j.val; omega
theorem inB_at (c : Dev nD) (t : Fin cfg0.N) (s : Fin 2048) (k : Fin 3) :
    inB V c t (ix3 0 s k) = arrB V c (ix3 (batchOf t) s k) := by
  refine congrArg (arrB V c) (?_ : (win0_1.rect t).emb (ix3 0 s k) = ix3 (batchOf t) s k)
  funext a; apply Fin.ext
  refine (Pipeline.Window.rect_emb_val win0_1 t _ a).trans ?_
  rw [index0_1]
  match a with
  | ⟨0, _⟩ => show t.val / 4 * 1 + 0 = t.val / 4; omega
  | ⟨1, _⟩ => show 0 * 2048 + s.val = s.val; omega
  | ⟨2, _⟩ => show 0 * 3 + k.val = k.val; omega
theorem inC_at (c : Dev nD) (t : Fin cfg0.N) (k : Fin 64) (j : Fin 2048) :
    inC V c t (ix3 0 k j) = arrC V c (ix3 (batchOf t) k (pointOf t j)) := by
  refine congrArg (arrC V c) (?_ : (win0_2.rect t).emb (ix3 0 k j) = ix3 (batchOf t) k (pointOf t j))
  funext a; apply Fin.ext
  refine (Pipeline.Window.rect_emb_val win0_2 t _ a).trans ?_
  rw [index0_2]
  match a with
  | ⟨0, _⟩ => show t.val / 4 * 1 + 0 = t.val / 4; omega
  | ⟨1, _⟩ => show 0 * 64 + k.val = k.val; omega
  | ⟨2, _⟩ => show t.val % 4 * 2048 + j.val = 2048 * (t.val % 4) + j.val; omega
theorem inD_at (c : Dev nD) (t : Fin cfg0.N) (k : Fin 128) (s : Fin 2048) :
    inD V c t (ix3 0 k s) = arrD V c (ix3 (batchOf t) k s) := by
  refine congrArg (arrD V c) (?_ : (win0_3.rect t).emb (ix3 0 k s) = ix3 (batchOf t) k s)
  funext a; apply Fin.ext
  refine (Pipeline.Window.rect_emb_val win0_3 t _ a).trans ?_
  rw [index0_3]
  match a with
  | ⟨0, _⟩ => show t.val / 4 * 1 + 0 = t.val / 4; omega
  | ⟨1, _⟩ => show 0 * 128 + k.val = k.val; omega
  | ⟨2, _⟩ => show 0 * 2048 + s.val = s.val; omega
theorem inE_at (c : Dev nD) (t : Fin cfg0.N) (o : Fin 64) (k : Fin 192) :
    inE V c t (ix2 o k) = arrE V c (ix2 o k) := by
  refine congrArg (arrE V c) (?_ : (win0_4.rect t).emb (ix2 o k) = ix2 o k)
  funext a; apply Fin.ext
  refine (Pipeline.Window.rect_emb_val win0_4 t _ a).trans ?_
  rw [index0_4]
  match a with
  | ⟨0, _⟩ => show 0 * 64 + o.val = o.val; omega
  | ⟨1, _⟩ => show 0 * 192 + k.val = k.val; omega

/-! ## The scratch and the features at a grid point -/

/-- What the scratch holds at every point of a batch: the projected sparse features and a row of ones. -/
theorem scrAt_at (c : Dev nD) : ∀ (n : ℕ) (hn : n < cfg0.N),
    (∀ s : Fin 2048, scrAt V c n hn (ix2 64 s) = (1 : EReal))
    ∧ ∀ (o : Fin 64) (s : Fin 2048), scrAt V c n hn (ix2 ⟨o.val, by omega⟩ s)
      = ∑ k : Fin 128, arrE V c (ix2 o ⟨64 + k.val, by omega⟩) * arrD V c (ix3 (batchOf ⟨n, hn⟩) k s) := by
  have fresh : ∀ t : Fin cfg0.N, t.val % 4 = 0 →
      (∀ s : Fin 2048, scrAt V c t.val t.isLt (ix2 64 s) = (1 : EReal))
      ∧ ∀ (o : Fin 64) (s : Fin 2048), scrAt V c t.val t.isLt (ix2 ⟨o.val, by omega⟩ s)
        = ∑ k : Fin 128, arrE V c (ix2 o ⟨64 + k.val, by omega⟩) * arrD V c (ix3 (batchOf t) k s) := by
    intro t h
    rw [scrAt_fresh V c t h]
    refine ⟨fun s => scratch_ones _ _ s, fun o s => (scratch_rows _ _ o s).trans ?_⟩
    exact Finset.sum_congr rfl fun k _ => congrArg₂ (· * ·) (inE_at V c t o _) (inD_at V c t k s)
  intro n
  induction n with
  | zero => exact fun hn => fresh ⟨0, hn⟩ rfl
  | succ n ih =>
    intro hn
    by_cases h : (n + 1) % 4 = 0
    · exact fresh ⟨n + 1, hn⟩ h
    · have e := scrAt_kept V c ⟨n + 1, hn⟩ h
      have eb : batchOf ⟨n + 1, hn⟩ = batchOf ⟨n, Nat.lt_of_succ_lt hn⟩ := by
        apply Fin.ext; show (n + 1) / 4 = n / 4; omega
      rw [eb]
      have e' : scrAt V c (n + 1) hn = scrAt V c n (Nat.lt_of_succ_lt hn) := e
      rw [e']
      exact ih _

theorem featAt_at (c : Dev nD) (t : Fin cfg0.N) (o : Fin 64) (j : Fin 2048) :
    featAt V c t (ix2 o j)
      = kfeat (arrA V c) (arrB V c) (arrC V c) (arrD V c) (arrE V c) (batchOf t) o (pointOf t j) := by
  have hd : dsq (inA V c t) j = kdsq (arrA V c) (batchOf t) (pointOf t j) :=
    Finset.sum_congr rfl fun k _ => congrArg₂ (· * ·) (inA_at V c t k j) (inA_at V c t k j)
  have hp : part (inA V c t) (inB V c t) j = kpart (arrA V c) (arrB V c) (batchOf t) (pointOf t j) := by
    funext s
    exact congrArg₂ (· + ·)
      (Finset.sum_congr rfl fun k _ => congrArg₂ (· * ·) (inB_at V c t s k) (inB_at V c t s k))
      (Finset.sum_congr rfl fun k _ => congrArg₂ (· * ·) (inB_at V c t s k) (congrArg (· * _) (inA_at V c t k j)))
  obtain ⟨h1, h2⟩ := scrAt_at V c t.val t.isLt
  refine (feats_at _ _ _ _ _ o j).trans ?_
  rw [hd, hp]
  refine congrArg₂ (· + ·)
    (Finset.sum_congr rfl fun k _ => congrArg₂ (· * ·) (inE_at V c t o _) (inC_at V c t k j))
    (congrArg₂ (· * ·) (Finset.sum_congr rfl fun s _ => congrArg (· * _) (h2 o s))
      (congrArg (Ideal.div 1 ·) (Finset.sum_congr rfl fun s _ => congrArg (· * _) (h1 s))))

/-! ## The features' array -/

theorem pay1_at (x : FVec Ideal S64x2048 .f32) (o : Fin 64) (j : Fin 2048) : k0_pay1 x (ix3 0 o j) = x (ix2 o j) := by
  pointwise [k0_pay1]

theorem yraw_eq (c : Dev nD) : (dat0 V c).arrAt 5 cfg0.N
    = (fun i => kfeat (arrA V c) (arrB V c) (arrC V c) (arrD V c) (arrE V c) (i 0) (i 1) (i 2) : FVec Ideal S4x64x8192 .f32) := by
  refine (dat0 V c).arrAt_eq_of_covers 5 _ (by decide +kernel) fun t hf y => ?_
  have hy : y = (ix3 0 (y 1) (y 2) : S1x64x2048.Idx) := by
    funext a
    match a with
    | ⟨0, _⟩ => exact Subsingleton.elim (α := Fin 1) _ _
    | ⟨1, _⟩ => rfl
    | ⟨2, _⟩ => rfl
  generalize (y 1 : Fin 64) = o at hy
  generalize (y 2 : Fin 2048) = j at hy
  subst hy
  have he : (win0_5.rect t).emb (ix3 0 o j) = ix3 (batchOf t) o (pointOf t j) := by
    funext a; apply Fin.ext
    refine (Pipeline.Window.rect_emb_val win0_5 t _ a).trans ?_
    rw [index0_5]
    match a with
    | ⟨0, _⟩ => show t.val / 4 * 1 + 0 = t.val / 4; omega
    | ⟨1, _⟩ => show 0 * 64 + o.val = o.val; omega
    | ⟨2, _⟩ => show t.val % 4 * 2048 + j.val = 2048 * (t.val % 4) + j.val; omega
  refine ((congrFun (after0_5 V c t) (ix3 0 o j)).trans ((pay1_at _ o j).trans (featAt_at V c t o j))).trans ?_
  exact (congrArg (fun i : S4x64x8192.Idx =>
    kfeat (arrA V c) (arrB V c) (arrC V c) (arrD V c) (arrE V c) (i 0) (i 1) (i 2)) he).symm

/-! ## The two totals -/

/-- A sum over the grid points and the places of their blocks is the sum over the batches and their points. -/
theorem sum_grid (g : Fin 4 → Fin 8192 → EReal) :
    ∑ t : Fin cfg0.N, ∑ j : Fin 2048, g (batchOf t) (pointOf t j) = ∑ b : Fin 4, ∑ n : Fin 8192, g b n := by
  have e1 : ∑ t : Fin cfg0.N, ∑ j : Fin 2048, g (batchOf t) (pointOf t j)
      = ∑ p : Fin 4 × Fin 4, ∑ j : Fin 2048, g p.1 ⟨2048 * p.2.val + j.val, by omega⟩ := by
    refine (Fintype.sum_equiv ((finProdFinEquiv (m := 4) (n := 4)).trans (finCongr N16.symm)) _ _ fun p => ?_).symm
    have hb : batchOf ((finProdFinEquiv.trans (finCongr N16.symm)) p) = p.1 := by
      apply Fin.ext
      show (p.2.val + 4 * p.1.val) / 4 = p.1.val
      omega
    refine Finset.sum_congr rfl fun j _ => ?_
    rw [hb]
    refine congrArg (g p.1) (Fin.ext ?_)
    show 2048 * p.2.val + j.val = 2048 * ((p.2.val + 4 * p.1.val) % 4) + j.val
    omega
  rw [e1, Fintype.sum_prod_type]
  refine Finset.sum_congr rfl fun b _ => ?_
  rw [← Fintype.sum_prod_type (f := fun p : Fin 4 × Fin 2048 => g b ⟨2048 * p.1.val + p.2.val, by omega⟩)]
  refine Fintype.sum_equiv (finProdFinEquiv (m := 4) (n := 2048)) _ _ fun p => ?_
  refine congrArg (g b) (Fin.ext ?_)
  show 2048 * p.1.val + p.2.val = p.2.val + 2048 * p.1.val
  omega

theorem pay4_at (y : FVec Ideal S64x2048 .f32) (a : FVec Ideal S64x1 .f32) (o : Fin 64) :
    k0_pay4 y a (ix2 o 0) = a (ix2 o 0) + ∑ j : Fin 2048, y (ix2 o j) := by
  pointwise [k0_pay4]
theorem pay5_at (y : FVec Ideal S64x2048 .f32) (a : FVec Ideal S64x1 .f32) (o : Fin 64) :
    k0_pay5 y a (ix2 o 0) = a (ix2 o 0) + ∑ j : Fin 2048, y (ix2 o j) * y (ix2 o j) := by
  pointwise [k0_pay5]
theorem pay2_at (o : Fin 64) : k0_pay2 (F := Ideal) (ix2 o 0) = 0 := by
  pointwise [k0_pay2]
theorem pay3_at (o : Fin 64) : k0_pay3 (F := Ideal) (ix2 o 0) = 0 := by
  pointwise [k0_pay3]

/-- A value that starts from the first point's term and gains each later point's is the sum of the terms so far. -/
theorem sum_upto {N : ℕ} (T : Fin N → EReal) (R : (n : ℕ) → n < N → EReal) (h0 : ∀ h : 0 < N, R 0 h = 0 + T ⟨0, h⟩)
    (hs : ∀ n (h : n + 1 < N), R (n + 1) h = R n (Nat.lt_of_succ_lt h) + T ⟨n + 1, h⟩) :
    ∀ n (h : n < N), R n h = ∑ t : Fin (n + 1), T ⟨t.val, by omega⟩ := by
  intro n
  induction n with
  | zero => intro h; rw [h0, zero_add, Fin.sum_univ_one]; rfl
  | succ n ih => intro h; rw [hs, ih, Fin.sum_univ_castSucc (n := n + 1)]; rfl

theorem sumAt_at (c : Dev nD) (o : Fin 64) (n : ℕ) (h : n < cfg0.N) : sumAt V c n h (ix2 o 0)
    = ∑ t : Fin (n + 1), ∑ j : Fin 2048, featAt V c ⟨t.val, by omega⟩ (ix2 o j) :=
  sum_upto (fun t => ∑ j : Fin 2048, featAt V c t (ix2 o j)) (fun n h => sumAt V c n h (ix2 o 0))
    (fun h => (pay4_at _ _ o).trans (congrArg (· + _) (pay2_at o))) (fun n h => pay4_at _ _ o) n h

theorem sqAt_at (c : Dev nD) (o : Fin 64) (n : ℕ) (h : n < cfg0.N) : sqAt V c n h (ix2 o 0)
    = ∑ t : Fin (n + 1), ∑ j : Fin 2048, featAt V c ⟨t.val, by omega⟩ (ix2 o j) * featAt V c ⟨t.val, by omega⟩ (ix2 o j) :=
  sum_upto (fun t => ∑ j : Fin 2048, featAt V c t (ix2 o j) * featAt V c t (ix2 o j)) (fun n h => sqAt V c n h (ix2 o 0))
    (fun h => (pay5_at _ _ o).trans (congrArg (· + _) (pay3_at o))) (fun n h => pay5_at _ _ o) n h

theorem last_lt : 15 < cfg0.N := by rw [N16]; decide
/-- The last point of the grid. -/
def lastPt : Fin cfg0.N := ⟨15, last_lt⟩

theorem sum_eq (c : Dev nD) (o : Fin 64) : (dat0 V c).arrAt 6 cfg0.N (ix2 o 0 : S64x1.Idx)
    = ∑ b : Fin 4, ∑ n : Fin 8192, kfeat (arrA V c) (arrB V c) (arrC V c) (arrD V c) (arrE V c) b o n := by
  have e : (dat0 V c).arrAt 6 cfg0.N = (sumAt V c 15 last_lt : FVec Ideal S64x1 .f32) :=
    (dat0 V c).arrAt_eq_of_after_last 6 lastPt (by decide +kernel) _ fun j => congrFun (after0_6 V c lastPt) j
  refine (congrFun e _).trans ((sumAt_at V c o 15 last_lt).trans ?_)
  rw [← sum_grid]
  exact Fintype.sum_equiv (finCongr N16.symm) _ _ fun t => Finset.sum_congr rfl fun j _ => featAt_at V c _ o j

theorem sq_eq (c : Dev nD) (o : Fin 64) : (dat0 V c).arrAt 7 cfg0.N (ix2 o 0 : S64x1.Idx)
    = ∑ b : Fin 4, ∑ n : Fin 8192, kfeat (arrA V c) (arrB V c) (arrC V c) (arrD V c) (arrE V c) b o n
        * kfeat (arrA V c) (arrB V c) (arrC V c) (arrD V c) (arrE V c) b o n := by
  have e : (dat0 V c).arrAt 7 cfg0.N = (sqAt V c 15 last_lt : FVec Ideal S64x1 .f32) :=
    (dat0 V c).arrAt_eq_of_after_last 7 lastPt (by decide +kernel) _ fun j => congrFun (after0_7 V c lastPt) j
  refine (congrFun e _).trans ((sqAt_at V c o 15 last_lt).trans ?_)
  rw [← sum_grid (fun b n => kfeat (arrA V c) (arrB V c) (arrC V c) (arrD V c) (arrE V c) b o n
        * kfeat (arrA V c) (arrB V c) (arrC V c) (arrD V c) (arrE V c) b o n)]
  exact Fintype.sum_equiv (finCongr N16.symm) _ _ fun t => Finset.sum_congr rfl fun j _ =>
    congrArg₂ (· * ·) (featAt_at V c _ o j) (featAt_at V c _ o j)

end Cert.KernelIdeal.Hand

end
-- ==== Proof.Result.lean ====
/- The kernel's result over the extended reals, entry by entry, from the arguments. -/
module

public import proofs.«01_k».proof.Proof.Arrays

@[expose] public section

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window)
open Cert.KernelIdeal.Gen Cert.Hand

/-! ## The normalisation -/

/-- The leaky rectifier. -/
def leak (z : EReal) : EReal := if 0 < z then z else Ideal.ofBits .f32 0x3E4CCCCD#32 * z

/-- The scale of a feature: `g` over the square root of the variance that the totals `S` and `Q` of `N` values give. -/
def scale (N S Q g : EReal) : EReal :=
  g * Ideal.rsqrt (Q * Ideal.div 1 N - S * Ideal.div 1 N * (S * Ideal.div 1 N) + Ideal.ofBits .f32 0x3727C5AC#32)

/-- The normalised value of `y`. -/
def bn (y N S Q g b : EReal) : EReal := y * scale N S Q g + (b - S * Ideal.div 1 N * scale N S Q g)

theorem bn_congr {y N S Q g b y' N' S' Q' g' b' : EReal} (h : y = y') (h1 : N = N') (h2 : S = S') (h3 : Q = Q') (h4 : g = g')
    (h5 : b = b') : bn y N S Q g b = bn y' N' S' Q' g' b' := by
  subst h h1 h2 h3 h4 h5
  rfl

theorem norm_pay_at (x0 : Ideal .f32) (x1 x2 x3 x4 : FVec Ideal S64x1 .f32) (x5 : FVec Ideal S1x64x2048 .f32) (o : Fin 64) (j : Fin 2048) :
    k1_pay1 (F := Ideal) x0 x1 x2 x3 x4 x5 (ix3 0 o j)
      = leak (bn (x5 (ix3 0 o j)) x0 (x1 (ix2 o 0)) (x2 (ix2 o 0)) (x3 (ix2 o 0)) (x4 (ix2 o 0))) := by
  pointwise [k1_pay1, leak, bn, scale]

/-! ## The second call's blocks -/

section region
variable (V : (c : Dev nD) → (b : Ref sig .tc) → Buf (Elt Ideal) ((c : Thread nD τ).loc b))

/-- The arrays as the second region finds them. -/
abbrev arrY (c : Dev nD) : FVec Ideal S4x64x8192 .f32 := V c main_v1_0
abbrev arrS (c : Dev nD) : FVec Ideal S64x1 .f32 := V c main_v1_1
abbrev arrQ (c : Dev nD) : FVec Ideal S64x1 .f32 := V c main_v1_2
abbrev arrG (c : Dev nD) : FVec Ideal S64x1 .f32 := V c main_v3
abbrev arrH (c : Dev nD) : FVec Ideal S64x1 .f32 := V c main_v4
abbrev arrN (c : Dev nD) : FVec Ideal S1 .f32 := V c main_v2

theorem N16' : cfg1.N = 16 := N_1

theorem index1_0 : ∀ t : Fin cfg1.N, win1_0.index t = ![t.val / 4, 0, t.val % 4] :=
  (by decide +kernel : ∀ t : Fin grid1.N, win1_0.index t = ![t.val / 4, 0, t.val % 4])
theorem index1_1 : ∀ t : Fin cfg1.N, win1_1.index t = ![0, 0] :=
  (by decide +kernel : ∀ t : Fin grid1.N, win1_1.index t = ![0, 0])
theorem index1_2 : ∀ t : Fin cfg1.N, win1_2.index t = ![0, 0] :=
  (by decide +kernel : ∀ t : Fin grid1.N, win1_2.index t = ![0, 0])
theorem index1_3 : ∀ t : Fin cfg1.N, win1_3.index t = ![0, 0] :=
  (by decide +kernel : ∀ t : Fin grid1.N, win1_3.index t = ![0, 0])
theorem index1_4 : ∀ t : Fin cfg1.N, win1_4.index t = ![0, 0] :=
  (by decide +kernel : ∀ t : Fin grid1.N, win1_4.index t = ![0, 0])
theorem index1_6 : ∀ t : Fin cfg1.N, win1_6.index t = ![t.val / 4, 0, t.val % 4] :=
  (by decide +kernel : ∀ t : Fin grid1.N, win1_6.index t = ![t.val / 4, 0, t.val % 4])

/-- The batch of a grid point, and the dense point at place `j` of its block. -/
def batchOf' (t : Fin cfg1.N) : Fin 4 := ⟨t.val / 4, by have : t.val < 16 := lt_of_lt_of_eq t.isLt N16'; omega⟩
def pointOf' (t : Fin cfg1.N) (j : Fin 2048) : Fin 8192 := ⟨2048 * (t.val % 4) + j.val, by omega⟩

theorem inY_at (c : Dev nD) (t : Fin cfg1.N) (o : Fin 64) (j : Fin 2048) :
    (blk1 V c 0 t : FVec Ideal S1x64x2048 .f32) (ix3 0 o j) = arrY V c (ix3 (batchOf' t) o (pointOf' t j)) := by
  refine congrArg (arrY V c) (?_ : (win1_0.rect t).emb (ix3 0 o j) = ix3 (batchOf' t) o (pointOf' t j))
  funext a; apply Fin.ext
  refine (Pipeline.Window.rect_emb_val win1_0 t _ a).trans ?_
  rw [index1_0]
  match a with
  | ⟨0, _⟩ => show t.val / 4 * 1 + 0 = t.val / 4; omega
  | ⟨1, _⟩ => show 0 * 64 + o.val = o.val; omega
  | ⟨2, _⟩ => show t.val % 4 * 2048 + j.val = 2048 * (t.val % 4) + j.val; omega
theorem inS_at (c : Dev nD) (t : Fin cfg1.N) (o : Fin 64) :
    (blk1 V c 1 t : FVec Ideal S64x1 .f32) (ix2 o 0) = arrS V c (ix2 o 0) := by
  refine congrArg (arrS V c) (?_ : (win1_1.rect t).emb (ix2 o 0) = ix2 o 0)
  funext a; apply Fin.ext
  refine (Pipeline.Window.rect_emb_val win1_1 t _ a).trans ?_
  rw [index1_1]
  match a with
  | ⟨0, _⟩ => show 0 * 64 + o.val = o.val; omega
  | ⟨1, _⟩ => rfl
theorem inQ_at (c : Dev nD) (t : Fin cfg1.N) (o : Fin 64) :
    (blk1 V c 2 t : FVec Ideal S64x1 .f32) (ix2 o 0) = arrQ V c (ix2 o 0) := by
  refine congrArg (arrQ V c) (?_ : (win1_2.rect t).emb (ix2 o 0) = ix2 o 0)
  funext a; apply Fin.ext
  refine (Pipeline.Window.rect_emb_val win1_2 t _ a).trans ?_
  rw [index1_2]
  match a with
  | ⟨0, _⟩ => show 0 * 64 + o.val = o.val; omega
  | ⟨1, _⟩ => rfl
theorem inG_at (c : Dev nD) (t : Fin cfg1.N) (o : Fin 64) :
    (blk1 V c 3 t : FVec Ideal S64x1 .f32) (ix2 o 0) = arrG V c (ix2 o 0) := by
  refine congrArg (arrG V c) (?_ : (win1_3.rect t).emb (ix2 o 0) = ix2 o 0)
  funext a; apply Fin.ext
  refine (Pipeline.Window.rect_emb_val win1_3 t _ a).trans ?_
  rw [index1_3]
  match a with
  | ⟨0, _⟩ => show 0 * 64 + o.val = o.val; omega
  | ⟨1, _⟩ => rfl
theorem inH_at (c : Dev nD) (t : Fin cfg1.N) (o : Fin 64) :
    (blk1 V c 4 t : FVec Ideal S64x1 .f32) (ix2 o 0) = arrH V c (ix2 o 0) := by
  refine congrArg (arrH V c) (?_ : (win1_4.rect t).emb (ix2 o 0) = ix2 o 0)
  funext a; apply Fin.ext
  refine (Pipeline.Window.rect_emb_val win1_4 t _ a).trans ?_
  rw [index1_4]
  match a with
  | ⟨0, _⟩ => show 0 * 64 + o.val = o.val; omega
  | ⟨1, _⟩ => rfl
theorem inN_at (c : Dev nD) (t : Fin cfg1.N) (i : S1.Idx) :
    (blk1 V c 5 t : FVec Ideal S1 .f32) i = arrN V c (ix1 0) := by
  refine congrArg (arrN V c) ?_
  funext a
  match a with
  | ⟨0, _⟩ => exact Subsingleton.elim (α := Fin 1) _ _

theorem normAt_at (c : Dev nD) (t : Fin cfg1.N) (o : Fin 64) (j : Fin 2048) : normAt V c t (ix3 0 o j)
    = leak (bn (arrY V c (ix3 (batchOf' t) o (pointOf' t j))) (arrN V c (ix1 0)) (arrS V c (ix2 o 0)) (arrQ V c (ix2 o 0))
        (arrG V c (ix2 o 0)) (arrH V c (ix2 o 0))) := by
  exact (norm_pay_at _ _ _ _ _ _ o j).trans (congrArg leak (bn_congr (inY_at V c t o j) (inN_at V c t _) (inS_at V c t o)
    (inQ_at V c t o) (inG_at V c t o) (inH_at V c t o)))

theorem result_eq (c : Dev nD) : (dat1 V c).arrAt 6 cfg1.N
    = (fun i => leak (bn (arrY V c i) (arrN V c (ix1 0)) (arrS V c (ix2 (i 1) 0)) (arrQ V c (ix2 (i 1) 0))
        (arrG V c (ix2 (i 1) 0)) (arrH V c (ix2 (i 1) 0))) : FVec Ideal S4x64x8192 .f32) := by
  refine (dat1 V c).arrAt_eq_of_covers 6 _ (by decide +kernel) fun t hf y => ?_
  have hy : y = (ix3 0 (y 1) (y 2) : S1x64x2048.Idx) := by
    funext a
    match a with
    | ⟨0, _⟩ => exact Subsingleton.elim (α := Fin 1) _ _
    | ⟨1, _⟩ => rfl
    | ⟨2, _⟩ => rfl
  generalize (y 1 : Fin 64) = o at hy
  generalize (y 2 : Fin 2048) = j at hy
  subst hy
  have he : (win1_6.rect t).emb (ix3 0 o j) = ix3 (batchOf' t) o (pointOf' t j) := by
    funext a; apply Fin.ext
    refine (Pipeline.Window.rect_emb_val win1_6 t _ a).trans ?_
    rw [index1_6]
    match a with
    | ⟨0, _⟩ => show t.val / 4 * 1 + 0 = t.val / 4; omega
    | ⟨1, _⟩ => show 0 * 64 + o.val = o.val; omega
    | ⟨2, _⟩ => show t.val % 4 * 2048 + j.val = 2048 * (t.val % 4) + j.val; omega
  refine ((congrFun (after1_6 V c t) (ix3 0 o j)).trans (normAt_at V c t o j)).trans ?_
  exact (congrArg (fun i : S4x64x8192.Idx => leak (bn (arrY V c i) (arrN V c (ix1 0)) (arrS V c (ix2 (i 1) 0))
    (arrQ V c (ix2 (i 1) 0)) (arrG V c (ix2 (i 1) 0)) (arrH V c (ix2 (i 1) 0)))) he).symm

end region

/-! ## From the arguments -/

variable (m : (ℓ : Loc nD τ sig) → Buf (Elt Ideal) ℓ) (ρ : Dev nD → PrngReg)

abbrev argA (c : Dev nD) : FVec Ideal S4x3x8192 .f32 := m ((c : Thread nD τ).loc main_arg0)
abbrev argB (c : Dev nD) : FVec Ideal S4x3x2048 .f32 := m ((c : Thread nD τ).loc main_arg1)
abbrev argC (c : Dev nD) : FVec Ideal S4x64x8192 .f32 := m ((c : Thread nD τ).loc main_arg2)
abbrev argD (c : Dev nD) : FVec Ideal S4x128x2048 .f32 := m ((c : Thread nD τ).loc main_arg3)
abbrev argE (c : Dev nD) : FVec Ideal S64x192 .f32 := m ((c : Thread nD τ).loc main_arg4)
abbrev argG (c : Dev nD) : FVec Ideal S64 .f32 := m ((c : Thread nD τ).loc main_arg5)
abbrev argH (c : Dev nD) : FVec Ideal S64 .f32 := m ((c : Thread nD τ).loc main_arg6)
/-- The sparse coordinates, transposed. -/
abbrev argB' (c : Dev nD) : FVec Ideal S4x2048x3 .f32 :=
  transpose S4x2048x3 [0, 2, 1] (argB m c) transposes_S4x3x2048_S4x2048x3_0_2_1

theorem argB'_at (c : Dev nD) (b : Fin 4) (s : Fin 2048) (k : Fin 3) : argB' m c (ix3 b s k) = argB m c (ix3 b k s) := by
  pointwise [argB']

theorem V1_v0 (c : Dev nD) : arrB (V1 m ρ) c = argB' m c := by
  show StableHlo.after hostOps0 (W0 m ρ c) (Proc.devRef .tc main_v0) = _
  unfold_abbrev_sides
  after_results

theorem V3_v2 (c : Dev nD) : arrN (V3 m ρ) c (ix1 0) = Ideal.ofBits .f32 0x47000000#32 := by
  have h : arrN (V3 m ρ) c = broadcastInDim S1 ![] bcast_S_S1 (constant (F := Ideal) S_ .f32 0x47000000#32) := by
    show StableHlo.after hostOps1 (W2 m ρ c) (Proc.devRef .tc main_v2) = _
    unfold_abbrev_sides
    after_results
  refine (congrFun h _).trans ?_
  pointwise

theorem cast_col (x : FVec Ideal S64 .f32) (o : Fin 64) : shapeCast S64x1 x shapeCasts_S64_S64x1 (ix2 o 0) = x (ix1 o) := by
  pointwise

theorem V3_v3 (c : Dev nD) (o : Fin 64) : arrG (V3 m ρ) c (ix2 o 0) = argG m c (ix1 o) := by
  have h : arrG (V3 m ρ) c = shapeCast S64x1 (argG m c) shapeCasts_S64_S64x1 := by
    refine Eq.trans (b := shapeCast S64x1 (W2 m ρ c (Proc.devRef .tc main_arg5) : FVec Ideal S64 .f32) shapeCasts_S64_S64x1) ?_
      (congrArg (fun x : FVec Ideal S64 .f32 => shapeCast S64x1 x shapeCasts_S64_S64x1) (W2_args m ρ c main_arg5 (by decide)))
    show StableHlo.after hostOps1 (W2 m ρ c) (Proc.devRef .tc main_v3) = _
    unfold_abbrev_sides
    after_results
    rfl
  exact (congrFun h _).trans (cast_col _ o)

theorem V3_v4 (c : Dev nD) (o : Fin 64) : arrH (V3 m ρ) c (ix2 o 0) = argH m c (ix1 o) := by
  have h : arrH (V3 m ρ) c = shapeCast S64x1 (argH m c) shapeCasts_S64_S64x1 := by
    refine Eq.trans (b := shapeCast S64x1 (W2 m ρ c (Proc.devRef .tc main_arg6) : FVec Ideal S64 .f32) shapeCasts_S64_S64x1) ?_
      (congrArg (fun x : FVec Ideal S64 .f32 => shapeCast S64x1 x shapeCasts_S64_S64x1) (W2_args m ρ c main_arg6 (by decide)))
    show StableHlo.after hostOps1 (W2 m ρ c) (Proc.devRef .tc main_v4) = _
    unfold_abbrev_sides
    after_results
    rfl
  exact (congrFun h _).trans (cast_col _ o)

/-- A feature before the normalisation, from the arguments. -/
def rawAt (c : Dev nD) (b : Fin 4) (o : Fin 64) (n : Fin 8192) : EReal :=
  kfeat (argA m c) (argB' m c) (argC m c) (argD m c) (argE m c) b o n

theorem kfeat_V1 (c : Dev nD) (b : Fin 4) (o : Fin 64) (n : Fin 8192) :
    kfeat (arrA (V1 m ρ) c) (arrB (V1 m ρ) c) (arrC (V1 m ρ) c) (arrD (V1 m ρ) c) (arrE (V1 m ρ) c) b o n = rawAt m c b o n := by
  have hA : arrA (V1 m ρ) c = argA m c := W1_args m ρ c main_arg0 (by decide)
  have hC : arrC (V1 m ρ) c = argC m c := W1_args m ρ c main_arg2 (by decide)
  have hD : arrD (V1 m ρ) c = argD m c := W1_args m ρ c main_arg3 (by decide)
  have hE : arrE (V1 m ρ) c = argE m c := W1_args m ρ c main_arg4 (by decide)
  rw [hA, V1_v0, hC, hD, hE]
  rfl

theorem V3_y (c : Dev nD) (b : Fin 4) (o : Fin 64) (n : Fin 8192) : arrY (V3 m ρ) c (ix3 b o n) = rawAt m c b o n := by
  have h : arrY (V3 m ρ) c = (dat0 (V1 m ρ) c).arrAt 5 cfg0.N := (W3_of m ρ c _ (by decide)).trans (W2_arr m ρ c 5)
  refine (congrFun (h.trans (yraw_eq (V1 m ρ) c)) _).trans ?_
  exact kfeat_V1 m ρ c b o n

theorem V3_s (c : Dev nD) (o : Fin 64) : arrS (V3 m ρ) c (ix2 o 0) = ∑ b : Fin 4, ∑ n : Fin 8192, rawAt m c b o n := by
  have h : arrS (V3 m ρ) c = (dat0 (V1 m ρ) c).arrAt 6 cfg0.N := (W3_of m ρ c _ (by decide)).trans (W2_arr m ρ c 6)
  have e : arrS (V3 m ρ) c (ix2 o 0) = ∑ b : Fin 4, ∑ n : Fin 8192,
      kfeat (arrA (V1 m ρ) c) (arrB (V1 m ρ) c) (arrC (V1 m ρ) c) (arrD (V1 m ρ) c) (arrE (V1 m ρ) c) b o n :=
    (congrFun h _).trans (sum_eq (V1 m ρ) c o)
  exact e.trans <| Finset.sum_congr rfl fun b _ => Finset.sum_congr rfl fun n _ => kfeat_V1 m ρ c b o n

theorem V3_q (c : Dev nD) (o : Fin 64) :
    arrQ (V3 m ρ) c (ix2 o 0) = ∑ b : Fin 4, ∑ n : Fin 8192, rawAt m c b o n * rawAt m c b o n := by
  have h : arrQ (V3 m ρ) c = (dat0 (V1 m ρ) c).arrAt 7 cfg0.N := (W3_of m ρ c _ (by decide)).trans (W2_arr m ρ c 7)
  have e : arrQ (V3 m ρ) c (ix2 o 0) = ∑ b : Fin 4, ∑ n : Fin 8192,
      kfeat (arrA (V1 m ρ) c) (arrB (V1 m ρ) c) (arrC (V1 m ρ) c) (arrD (V1 m ρ) c) (arrE (V1 m ρ) c) b o n
        * kfeat (arrA (V1 m ρ) c) (arrB (V1 m ρ) c) (arrC (V1 m ρ) c) (arrD (V1 m ρ) c) (arrE (V1 m ρ) c) b o n :=
    (congrFun h _).trans (sq_eq (V1 m ρ) c o)
  exact e.trans <| Finset.sum_congr rfl fun b _ => Finset.sum_congr rfl fun n _ => by rw [kfeat_V1 m ρ c b o n]

/-- The kernel's first result at an entry. -/
theorem out_at (c : Dev nD) (b : Fin 4) (o : Fin 64) (n : Fin 8192) :
    (W4 m ρ c (Proc.devRef .tc main_v5) : FVec Ideal S4x64x8192 .f32) (ix3 b o n)
      = leak (bn (rawAt m c b o n) (Ideal.ofBits .f32 0x47000000#32) (∑ b : Fin 4, ∑ n : Fin 8192, rawAt m c b o n)
          (∑ b : Fin 4, ∑ n : Fin 8192, rawAt m c b o n * rawAt m c b o n) (argG m c (ix1 o)) (argH m c (ix1 o))) := by
  have h : (W4 m ρ c (Proc.devRef .tc main_v5) : FVec Ideal S4x64x8192 .f32) = (dat1 (V3 m ρ) c).arrAt 6 cfg1.N := W4_arr m ρ c 6
  refine (congrFun (h.trans (result_eq (V3 m ρ) c)) _).trans ?_
  show leak (bn (arrY (V3 m ρ) c (ix3 b o n)) (arrN (V3 m ρ) c (ix1 0)) (arrS (V3 m ρ) c (ix2 o 0)) (arrQ (V3 m ρ) c (ix2 o 0))
    (arrG (V3 m ρ) c (ix2 o 0)) (arrH (V3 m ρ) c (ix2 o 0))) = _
  rw [V3_y, V3_v2, V3_s, V3_q, V3_v3, V3_v4]

end Cert.KernelIdeal.Hand

end
-- ==== Proof.RealMaths.lean ====
/- The two programs' formulas on real numbers: the interpolated feature before and after the linear map, and the batch
   normalisation from the two totals or from the centred values. -/
module

public import proofs.«01_k».proof.Proof.Result

@[expose] public section

set_option maxRecDepth 16384

noncomputable section

namespace Cert.Hand

open Idealize.ShloMosaic Cert.KernelIdeal.Hand

/-! ## The features -/

/-- Mapping the three nearest features linearly and then averaging them is averaging them and then mapping. -/
theorem feat_real (W1 A : Fin 64 → ℝ) (W2 : Fin 128 → ℝ) (X : Fin 128 → Fin 2048 → ℝ) (P : Fin 2048 → ℝ) (d : ℝ)
    (pl : Fin 3 → Fin 2048) (h : Nearest (fun s => ((P s : ℝ) : EReal)) (pl 0) (pl 1) (pl 2)) :
    ∃ y : ℝ,
      (∑ k, (W1 k : EReal) * (A k : EReal)
        + (∑ s, (∑ k, (W2 k : EReal) * (X k s : EReal)) * rowWt (fun s => ((P s : ℝ) : EReal)) (d : EReal) s)
          * Ideal.div 1 (∑ s, 1 * rowWt (fun s => ((P s : ℝ) : EReal)) (d : EReal) s)) = (y : EReal)
      ∧ (∑ k, (A k : EReal) * (W1 k : EReal)
        + ∑ x, (∑ k, (X x (pl k) : EReal) * Ideal.div (wt ((P (pl k) + d : ℝ) : EReal)) (∑ k', wt ((P (pl k') + d : ℝ) : EReal)))
            * (W2 x : EReal)) = (y : EReal) := by
  have hr : ((P (pl 2) : ℝ) : EReal) < ⊤ := EReal.coe_lt_top _
  rw [h.sum_rowWt hr (d : EReal) fun s => ∑ k, (W2 k : EReal) * (X k s : EReal), h.sum_rowWt hr (d : EReal) fun _ => 1]
  choose w w0 hw using fun k => wt_real (P (pl k) + d)
  have T0 : w 0 + w 1 + w 2 ≠ 0 := by
    have := w0 0; have := w0 1; have := w0 2
    positivity
  have hC : ∀ s, (∑ k, (W2 k : EReal) * (X k s : EReal)) = ((∑ k, W2 k * X k s : ℝ) : EReal) := fun s => by
    rw [coe_sum]; exact Finset.sum_congr rfl fun k _ => (EReal.coe_mul _ _).symm
  have hA : (∑ k, (W1 k : EReal) * (A k : EReal)) = ((∑ k, W1 k * A k : ℝ) : EReal) := by
    rw [coe_sum]; exact Finset.sum_congr rfl fun k _ => (EReal.coe_mul _ _).symm
  have hA' : (∑ k, (A k : EReal) * (W1 k : EReal)) = ((∑ k, W1 k * A k : ℝ) : EReal) := by
    rw [← hA]; exact Finset.sum_congr rfl fun k _ => mul_comm _ _
  simp only [← EReal.coe_add, hw, hC, one_mul, Fin.sum_univ_three, hA, hA']
  simp only [div_real T0, ← EReal.coe_add, ← EReal.coe_mul, ← coe_sum]
  have one : Ideal.div 1 ((w 0 + w 1 + w 2 : ℝ) : EReal) = ((1 / (w 0 + w 1 + w 2) : ℝ) : EReal) := by
    rw [← div_real T0, EReal.coe_one]
  rw [one]
  simp only [← EReal.coe_add, ← EReal.coe_mul]
  refine ⟨_, rfl, congrArg _ (congrArg _ ?_)⟩
  simp only [Finset.sum_mul, ← Finset.sum_add_distrib]
  refine Finset.sum_congr rfl fun x _ => ?_
  ring

/-! ## The normalisation -/

/-- The mean square less the squared mean is the mean square of the centred values. -/
theorem var_real (y : Fin 4 → Fin 8192 → ℝ) :
    (∑ b, ∑ n, y b n * y b n) * (1 / 32768) - (∑ b, ∑ n, y b n) * (1 / 32768) * ((∑ b, ∑ n, y b n) * (1 / 32768))
      = (∑ b, ∑ n, (y b n - (∑ b, ∑ n, y b n) / 32768) * (y b n - (∑ b, ∑ n, y b n) / 32768)) / 32768 := by
  generalize hS : (∑ b, ∑ n, y b n) = S
  have e : ∀ b n, (y b n - S / 32768) * (y b n - S / 32768) = y b n * y b n - 2 * (S / 32768) * y b n + S / 32768 * (S / 32768) :=
    fun b n => by ring
  simp only [e, Finset.sum_add_distrib, Finset.sum_sub_distrib, ← Finset.mul_sum, hS, Finset.sum_const, Finset.card_univ,
    Fintype.card_fin, nsmul_eq_mul]
  push_cast
  ring

theorem coe_sum2 (y : Fin 4 → Fin 8192 → ℝ) : (∑ b, ∑ n, (y b n : EReal)) = ((∑ b, ∑ n, y b n : ℝ) : EReal) := by
  rw [coe_sum]; exact Finset.sum_congr rfl fun b _ => (coe_sum _ _).symm

/-- Scaling and shifting by the totals is centring, dividing by the deviation and shifting. -/
theorem bn_real (y : Fin 4 → Fin 8192 → ℝ) (g : ℝ) (β : EReal) (b : Fin 4) (n : Fin 8192) (μ v : EReal)
    (hμ : μ = Ideal.div (∑ b, ∑ n, (y b n : EReal)) (Ideal.ofBits .f32 0x47000000#32))
    (hv : v = Ideal.div (∑ b, ∑ n, ((y b n : EReal) - μ) * ((y b n : EReal) - μ)) ((32768 : ℝ) : EReal)) :
    bn (y b n : EReal) (Ideal.ofBits .f32 0x47000000#32) (∑ b, ∑ n, (y b n : EReal)) (∑ b, ∑ n, (y b n : EReal) * (y b n : EReal))
        (g : EReal) β
      = Ideal.div ((g : EReal) * ((y b n : EReal) - μ)) (Ideal.sqrt (v + Ideal.ofBits .f32 0x3727C5AC#32)) + β := by
  obtain ⟨e, e0, he⟩ := word_eps
  have N0 : (32768 : ℝ) ≠ 0 := by norm_num
  have hq : (∑ b, ∑ n, (y b n : EReal) * (y b n : EReal)) = ((∑ b, ∑ n, y b n * y b n : ℝ) : EReal) := by
    simp only [← EReal.coe_mul]; exact coe_sum2 fun b n => y b n * y b n
  rw [word_count, coe_sum2, div_real N0] at hμ
  subst hμ
  have hc : (∑ b, ∑ n, ((y b n : EReal) - (((∑ b, ∑ n, y b n) / 32768 : ℝ) : EReal)) * ((y b n : EReal) - (((∑ b, ∑ n, y b n) / 32768 : ℝ) : EReal)))
      = ((∑ b, ∑ n, (y b n - (∑ b, ∑ n, y b n) / 32768) * (y b n - (∑ b, ∑ n, y b n) / 32768) : ℝ) : EReal) := by
    simp only [← EReal.coe_sub, ← EReal.coe_mul]
    exact coe_sum2 fun b' n' => (y b' n' - (∑ b, ∑ n, y b n) / 32768) * (y b' n' - (∑ b, ∑ n, y b n) / 32768)
  rw [hc, div_real N0, ← var_real y] at hv
  have hv0 : 0 ≤ (∑ b, ∑ n, y b n * y b n) * (1 / 32768) - (∑ b, ∑ n, y b n) * (1 / 32768) * ((∑ b, ∑ n, y b n) * (1 / 32768)) := by
    rw [var_real y]
    refine div_nonneg ?_ (by norm_num)
    exact Finset.sum_nonneg fun b _ => Finset.sum_nonneg fun n _ => mul_self_nonneg _
  have one : Ideal.div 1 ((32768 : ℝ) : EReal) = ((1 / 32768 : ℝ) : EReal) := by
    rw [← div_real N0, EReal.coe_one]
  unfold bn scale
  rw [hv, he, word_count, coe_sum2, hq, one]
  generalize (∑ b, ∑ n, y b n) = S at *
  generalize (∑ b, ∑ n, y b n * y b n) = Q at *
  simp only [← EReal.coe_mul, ← EReal.coe_sub, ← EReal.coe_add]
  generalize hV : Q * (1 / 32768) - S * (1 / 32768) * (S * (1 / 32768)) = V at *
  have V0 : 0 < V + e := by linarith
  rw [Ideal.rsqrt_coe, Ideal.sqrt_coe, if_neg (not_lt.2 V0.le), if_neg V0.ne', if_neg (not_lt.2 V0.le)]
  rw [div_real (Real.sqrt_pos.2 V0).ne']
  simp only [← EReal.coe_mul]
  induction β using EReal.rec with
  | bot => simp [sub_eq_add_neg]
  | top => rw [EReal.top_sub_coe, EReal.coe_add_top, EReal.coe_add_top]
  | coe β =>
    rw [← EReal.coe_sub, ← EReal.coe_add, ← EReal.coe_add]
    refine congrArg _ ?_
    rw [div_eq_mul_inv]
    ring

end Cert.Hand

end
-- ==== Proof.TopThree.lean ====
/- What a stable descending sort says of the three smallest of the negated values. -/
module

public import proofs.«01_k».proof.Proof.Maths
public import Idealize.ShloMosaic.Lib.SortFacts
public import Idealize.ShloMosaic.Lib.Pointwise

@[expose] public section

set_option maxRecDepth 16384

noncomputable section

namespace Cert.Hand

open Idealize.ShloMosaic

/-- Greater first, on plain values. -/
def above {n : ℕ} (g : Fin n → EReal) (k k' : Fin n) : Bool :=
  FloatOps.cmpfTotal (F := Ideal) (φ := .f32) .gt (g k) (g k') == 1#1

theorem above_iff {n : ℕ} (g : Fin n → EReal) (k k' : Fin n) : above g k k' = true ↔ g k' < g k := by
  have e : FloatOps.cmpfTotal (F := Ideal) (φ := .f32) .gt (g k) (g k') = BitVec.ofBool (decide (g k' < g k)) := rfl
  unfold above
  rw [e]
  by_cases h : g k' < g k <;> simp [h]

theorem above_false {n : ℕ} (g : Fin n → EReal) (k k' : Fin n) : above g k k' = false ↔ g k ≤ g k' := by
  rw [← not_lt, ← above_iff, Bool.not_eq_true]

/-- No later place holds a greater value. -/
theorem sorted_le {n : ℕ} (g : Fin n → EReal) (i j : Fin n) (hij : i < j) :
    g (sortedFrom (above g) j) ≤ g (sortedFrom (above g) i) := by
  rw [← above_false]
  refine sortedFrom_noInversion (above g) (above g) ?_ (fun _ _ h => h) ?_ i j hij
  · intro a b h
    rw [above_iff] at h
    rw [above_false]
    exact h.le
  · intro a b c h1 h2
    rw [above_false] at h1 h2 ⊢
    exact h1.trans h2

/-- When the four greatest values are strictly decreasing, the places of the first three are the three nearest of any
    function that turns the order around. -/
theorem nearest_of_sorted (g f : Fin 2048 → EReal) (hf : ∀ s s', f s < f s' ↔ g s' < g s)
    (h01 : g (sortedFrom (above g) 1) < g (sortedFrom (above g) 0))
    (h12 : g (sortedFrom (above g) 2) < g (sortedFrom (above g) 1))
    (h23 : g (sortedFrom (above g) 3) < g (sortedFrom (above g) 2)) :
    Nearest f (sortedFrom (above g) 0) (sortedFrom (above g) 1) (sortedFrom (above g) 2) where
  pq := (hf _ _).mpr h01
  qr := (hf _ _).mpr h12
  rest := by
    intro s h0 h1 h2
    obtain ⟨k, rfl⟩ := sortedFrom_surjective (above g) s
    rw [hf]
    have n0 : k ≠ 0 := fun e => h0 (by rw [e])
    have n1 : k ≠ 1 := fun e => h1 (by rw [e])
    have n2 : k ≠ 2 := fun e => h2 (by rw [e])
    by_cases e3 : k = 3
    · rw [e3]; exact h23
    · refine lt_of_le_of_lt (sorted_le g 3 k ?_) h23
      omega

/-! ## The two sorts of the program -/

abbrev T3 : Shape := ⟨3, ![4, 8192, 3]⟩
abbrev T4 : Shape := ⟨3, ![4, 8192, 4]⟩
abbrev TD : Shape := ⟨3, ![4, 8192, 2048]⟩

/-- The place the sort of row (b, n) takes its `k`th entry from. -/
def place (X : FVec Ideal TD .f32) (b : Fin 4) (n : Fin 8192) (k : Fin 2048) : Fin 2048 :=
  sortedFrom (above fun s => X (ix3 b n s)) k

theorem along_last (b : Fin 4) (n : Fin 8192) (s k : Fin 2048) :
    (ix3 b n s : TD.Idx).along (2 : Fin 3) k = ix3 b n k := by
  funext a
  fin_cases a <;> rfl

theorem sort_value (X : FVec Ideal TD .f32) (Y : IVec TD 32) (b : Fin 4) (n : Fin 8192) (k : Fin 2048) :
    (Host.sort2 TD 2 (fun l r => FloatOps.cmpfTotal (F := Ideal) (φ := .f32) .gt l.1 r.1) X Y).1 (ix3 b n k)
      = X (ix3 b n (place X b n k)) := by
  unfold Host.sort2
  rw [dif_pos (by decide)]
  refine (congrArg X (along_last b n k _)).trans ?_
  have e : (fun c c' : Fin 2048 => FloatOps.cmpfTotal (F := Ideal) (φ := .f32) .gt
    (X ((ix3 b n k : TD.Idx).along (2 : Fin 3) c)) (X ((ix3 b n k : TD.Idx).along (2 : Fin 3) c')) == 1#1)
      = above fun s => X (ix3 b n s) := by
    funext c c'
    rw [along_last, along_last]
    rfl
  exact congrArg _ (congrArg (fun B => ix3 b n (sortedFrom B k)) e)

theorem sort_index (X : FVec Ideal TD .f32) (Y : IVec TD 32) (b : Fin 4) (n : Fin 8192) (k : Fin 2048) :
    (Host.sort2 TD 2 (fun l r => FloatOps.cmpfTotal (F := Ideal) (φ := .f32) .gt l.1 r.1) X Y).2 (ix3 b n k)
      = Y (ix3 b n (place X b n k)) := by
  unfold Host.sort2
  rw [dif_pos (by decide)]
  refine (congrArg Y (along_last b n k _)).trans ?_
  have e : (fun c c' : Fin 2048 => FloatOps.cmpfTotal (F := Ideal) (φ := .f32) .gt
    (X ((ix3 b n k : TD.Idx).along (2 : Fin 3) c)) (X ((ix3 b n k : TD.Idx).along (2 : Fin 3) c')) == 1#1)
      = above fun s => X (ix3 b n s) := by
    funext c c'
    rw [along_last, along_last]
    rfl
  exact congrArg _ (congrArg (fun B => ix3 b n (sortedFrom B k)) e)

/-- The positions along a row, as 32-bit words. -/
def posns : IVec TD 32 := fun i => if hd : 2 < TD.rank then iotaInDim TD 32 ⟨2, hd⟩ i else 0#32

theorem posns_at (b : Fin 4) (n : Fin 8192) (k : Fin 2048) : posns (ix3 b n k) = BitVec.ofNat 32 k.val := by
  unfold posns
  rw [dif_pos (by decide)]
  rfl

theorem slice3_at {α : Type} (A : TD.Idx → α) (h : TD.Slices (fun _ => 0) T3) (b : Fin 4) (n : Fin 8192) (k : Fin 3) :
    extractStridedSlice T3 (fun _ => 0) A h (ix3 b n k) = A (ix3 b n ⟨k.val, by omega⟩) := by
  refine congrArg A ?_
  funext a; apply Fin.ext; fin_cases a <;> exact Nat.zero_add _

theorem slice4_at {α : Type} (A : TD.Idx → α) (h : TD.Slices (fun _ => 0) T4) (b : Fin 4) (n : Fin 8192) (k : Fin 4) :
    extractStridedSlice T4 (fun _ => 0) A h (ix3 b n k) = A (ix3 b n ⟨k.val, by omega⟩) := by
  refine congrArg A ?_
  funext a; apply Fin.ext; fin_cases a <;> exact Nat.zero_add _

theorem top3_value (X : FVec Ideal TD .f32) (h : TD.Slices (fun _ => 0) T3) (b : Fin 4) (n : Fin 8192) (k : Fin 3) :
    (Host.topK T3 2 (FloatOps.cmpfTotal (F := Ideal) (φ := .f32) .gt) X h).1 (ix3 b n k)
      = X (ix3 b n (place X b n ⟨k.val, by omega⟩)) :=
  (slice3_at _ h b n k).trans (sort_value X posns b n ⟨k.val, by omega⟩)

theorem top3_index (X : FVec Ideal TD .f32) (h : TD.Slices (fun _ => 0) T3) (b : Fin 4) (n : Fin 8192) (k : Fin 3) :
    (Host.topK T3 2 (FloatOps.cmpfTotal (F := Ideal) (φ := .f32) .gt) X h).2 (ix3 b n k)
      = BitVec.ofNat 32 (place X b n ⟨k.val, by omega⟩).val :=
  (slice3_at _ h b n k).trans ((sort_index X posns b n ⟨k.val, by omega⟩).trans (posns_at b n _))

theorem top4_value (X : FVec Ideal TD .f32) (h : TD.Slices (fun _ => 0) T4) (b : Fin 4) (n : Fin 8192) (k : Fin 4) :
    (Host.topK T4 2 (FloatOps.cmpfTotal (F := Ideal) (φ := .f32) .gt) X h).1 (ix3 b n k)
      = X (ix3 b n (place X b n ⟨k.val, by omega⟩)) :=
  (slice4_at _ h b n k).trans (sort_value X posns b n ⟨k.val, by omega⟩)

end Cert.Hand

end
-- ==== Proof.RefValue.lean ====
/- The reference's result over the extended reals, entry by entry: the projected features of a dense point from its three
   nearest sparse points, and the batch normalisation of those. -/
module

public import proofs.«01_k».proof.Proof.TopThree
public import proofs.«01_k».proof.Proof.Gen.ReferenceIdeal.Run
public import Idealize.ShloMosaic.Lib.Pointwise

@[expose] public section

set_option maxRecDepth 16384

noncomputable section

namespace Cert.ReferenceIdeal.Hand

open Idealize.ShloMosaic Idealize.SL.Sem Cert.ReferenceIdeal Cert.ReferenceIdeal.Gen Cert.ReferenceIdeal.Value Cert.Hand

/-! ## Sums over the first and last of three axes, and the fold over one entry -/

theorem fiber_outer (o : Fin 64) (i : S4x64x8192.Idx) :
    reducesTo_S4x64x8192_S64_d0_2.drop i = ix1 o ↔ ∃ k : Fin 4 × Fin 8192, ix3 k.1 o k.2 = i := by
  constructor
  · intro e
    refine ⟨(i 0, i 2), ?_⟩
    funext a; apply Fin.ext
    match a with
    | ⟨0, _⟩ => rfl
    | ⟨1, _⟩ => exact (congrArg Fin.val (congrFun e (0 : Fin 1))).symm
    | ⟨2, _⟩ => rfl
  · rintro ⟨k, rfl⟩
    funext b; apply Fin.ext
    match b with
    | ⟨0, _⟩ => rfl

theorem sum_outer (v : FVec Ideal S4x64x8192 .f32) (o : Fin 64) :
    Ideal.hostReduceAdd reducesTo_S4x64x8192_S64_d0_2 v 0 (ix1 o) = ∑ b : Fin 4, ∑ n : Fin 8192, v (ix3 b o n) := by
  unfold Ideal.hostReduceAdd
  rw [zero_add]
  refine (Finset.sum_filter_eq_sum_of_fiber _ (fun k : Fin 4 × Fin 8192 => (ix3 k.1 o k.2 : S4x64x8192.Idx))
    (fun _ _ e => Prod.ext (congrFun e 0) (congrFun e 2)) (fiber_outer o) v).trans ?_
  simp only [Fintype.sum_prod_type]

theorem fiber_one (b : Fin 4) (n : Fin 8192) (k : Fin 3) (i : S4x8192x3x1.Idx) :
    reducesTo_S4x8192x3x1_S4x8192x3_d3.drop i = ix3 b n k ↔ ∃ z : Fin 1, ix4 b n k z = i := by
  constructor
  · intro e
    refine ⟨i 3, ?_⟩
    funext a; apply Fin.ext
    match a with
    | ⟨0, _⟩ => exact (congrArg Fin.val (congrFun e (0 : Fin 3))).symm
    | ⟨1, _⟩ => exact (congrArg Fin.val (congrFun e (1 : Fin 3))).symm
    | ⟨2, _⟩ => exact (congrArg Fin.val (congrFun e (2 : Fin 3))).symm
    | ⟨3, _⟩ => rfl
  · rintro ⟨z, rfl⟩
    funext c; apply Fin.ext
    match c with
    | ⟨0, _⟩ => rfl
    | ⟨1, _⟩ => rfl
    | ⟨2, _⟩ => rfl

theorem fold_one (f : S4x8192x3x1.Idx → BitVec 1) (b : Fin 4) (n : Fin 8192) (k : Fin 3) :
    Finset.fold IntOp.andi (1#1) f (Finset.univ.filter fun i => reducesTo_S4x8192x3x1_S4x8192x3_d3.drop i = ix3 b n k)
      = IntOp.andi (f (ix4 b n k 0)) 1#1 := by
  refine (Finset.fold_filter_eq_fold_of_fiber IntOp.andi _ (fun z : Fin 1 => (ix4 b n k z : S4x8192x3x1.Idx))
    (fun _ _ e => congrFun e 3) (fiber_one b n k) 1#1 f).trans ?_
  rfl

/-! ## The gather -/

theorem word_toInt (q : ℕ) (h : q < 2048) : (BitVec.ofNat 32 q).toInt = (q : ℤ) := by
  rw [BitVec.toInt_eq_toNat_of_lt (by rw [BitVec.toNat_ofNat]; omega), BitVec.toNat_ofNat]
  congr 1
  omega

theorem gather_at (A : FVec Ideal S4x128x2048 .f32) (I : IVec S4x8192x3x1 32) (b : Fin 4) (x : Fin 128) (n : Fin 8192)
    (k : Fin 3) (p : Fin 2048) (hp : I (ix4 b n k 0) = BitVec.ofNat 32 p.val) :
    Host.gather gather_S4x128x2048_S4x8192x3x1_S4x128x8192x3_1_2_0_0_2_3_11281 A I (ix4 b x n k) = A (ix3 b x p) := by
  unfold Host.gather
  refine congrArg A ?_
  funext a; apply Fin.ext
  match a with
  | ⟨0, _⟩ => show 0 + b.val + 0 = b.val; omega
  | ⟨1, _⟩ => show 0 + 0 + x.val = x.val; omega
  | ⟨2, _⟩ =>
    have hs : gather_S4x128x2048_S4x8192x3x1_S4x128x8192x3_1_2_0_0_2_3_11281.siIdx (ix4 b x n k) ⟨0, by decide⟩ = ix4 b n k 0 := by
      funext c; apply Fin.ext
      match c with
      | ⟨0, _⟩ => rfl
      | ⟨1, _⟩ => rfl
      | ⟨2, _⟩ => rfl
      | ⟨3, _⟩ => rfl
    show min (I (gather_S4x128x2048_S4x8192x3x1_S4x128x8192x3_1_2_0_0_2_3_11281.siIdx (ix4 b x n k) ⟨0, by decide⟩)).toInt.toNat (2048 - 1)
      + 0 + 0 = p.val
    rw [hs, hp]
    have := p.isLt
    rw [word_toInt _ this]
    omega

/-! ## The named values -/

variable (V0 : Valuation τ sig (Elt Ideal))

abbrev a0 : FVec Ideal S4x3x8192 .f32 := V0 (Proc.devRef .tc main_arg0)
abbrev a1 : FVec Ideal S4x3x2048 .f32 := V0 (Proc.devRef .tc main_arg1)
abbrev a2 : FVec Ideal S4x64x8192 .f32 := V0 (Proc.devRef .tc main_arg2)
abbrev a3 : FVec Ideal S4x128x2048 .f32 := V0 (Proc.devRef .tc main_arg3)
abbrev a4 : FVec Ideal S64x192 .f32 := V0 (Proc.devRef .tc main_arg4)
abbrev a5 : FVec Ideal S64 .f32 := V0 (Proc.devRef .tc main_arg5)
abbrev a6 : FVec Ideal S64 .f32 := V0 (Proc.devRef .tc main_arg6)

/-- The negated squared distances. -/
abbrev negd : FVec Ideal S4x8192x2048 .f32 := res_main_v13 V0

theorem negd_at (b : Fin 4) (n : Fin 8192) (s : Fin 2048) : negd V0 (ix3 b n s)
    = -(∑ x : Fin 3, a0 V0 (ix3 b x n) * a0 V0 (ix3 b x n) + ∑ x : Fin 3, a1 V0 (ix3 b x s) * a1 V0 (ix3 b x s)
        - Ideal.ofBits .f32 0x40000000#32 * ∑ x : Fin 3, a0 V0 (ix3 b x n) * a1 V0 (ix3 b x s)) := by
  pointwise [negd, res_main_v13]

/-- The `k`th nearest sparse point of dense point (b, n), and its weight. -/
abbrev near (b : Fin 4) (n : Fin 8192) (k : Fin 3) : Fin 2048 := place (negd V0) b n ⟨k.val, by omega⟩

theorem index_at (b : Fin 4) (n : Fin 8192) (k : Fin 3) :
    res_main_call0_v5 V0 (ix4 b n k 0) = BitVec.ofNat 32 (near V0 b n k).val := by
  have e : res_main_indices V0 (ix3 b n k) = BitVec.ofNat 32 (near V0 b n k).val :=
    top3_index (negd V0) sliceFits_S4x8192x2048_S4x8192x3 b n k
  have h : res_main_call0_v5 V0 (ix4 b n k 0) = Scalar.select (IntOp.cmpi .slt (res_main_indices V0 (ix3 b n k)) 0#32)
      (IntOp.addi (res_main_indices V0 (ix3 b n k)) 2048#32) (res_main_indices V0 (ix3 b n k)) := by
    pointwise [res_main_call0_v5]
  rw [h, e]
  have := (near V0 b n k).isLt
  generalize (near V0 b n k).val = q at this ⊢
  have hc : IntOp.cmpi .slt (BitVec.ofNat 32 q) 0#32 = 0#1 := by
    have hz : ¬ ((q : ℤ) < 0) := by omega
    simp [IntOp.cmpi, BitVec.slt, word_toInt q this, hz]
  rw [hc]
  rfl

theorem weight_at (b : Fin 4) (n : Fin 8192) (k : Fin 3) :
    res_main_v21 V0 (ix3 b n k) = wt (-(negd V0 (ix3 b n (near V0 b n k)))) := by
  have h : res_main_v21 V0 (ix3 b n k) = wt (-(Host.topK S4x8192x3 2 (FloatOps.cmpfTotal .gt) (res_main_v13 V0)
      sliceFits_S4x8192x2048_S4x8192x3).1 (ix3 b n k)) := by
    pointwise [res_main_v21, wt]
  rw [h]
  exact congrArg (fun z : EReal => wt (-z)) (top3_value (negd V0) sliceFits_S4x8192x2048_S4x8192x3 b n k)

/-- The features before normalisation, their differences from the mean, and the number of points. -/
abbrev feat : FVec Ideal S4x64x8192 .f32 := res_main_v32 V0
abbrev cent : FVec Ideal S4x64x8192 .f32 := res_main_call1_v5 V0
abbrev cnt : FVec Ideal S_ .f32 := res_main_call1_v8 V0
abbrev nrm : FVec Ideal S4x64x8192 .f32 := res_main_v50 V0

/-- The projected features, before normalisation. -/
theorem feat_at (b : Fin 4) (o : Fin 64) (n : Fin 8192) :
    feat V0 (ix3 b o n)
      = ∑ x : Fin 64, a2 V0 (ix3 b x n) * a4 V0 (ix2 o ⟨x.val, by omega⟩)
        + ∑ x : Fin 128, (∑ k : Fin 3, a3 V0 (ix3 b x (near V0 b n k))
            * Ideal.div (wt (-(negd V0 (ix3 b n (near V0 b n k)))))
                (∑ k' : Fin 3, wt (-(negd V0 (ix3 b n (near V0 b n k'))))))
          * a4 V0 (ix2 o ⟨64 + x.val, by omega⟩) := by
  pointwise [feat, res_main_v32]
  refine congrArg (_ + ·) (Finset.sum_congr rfl fun x _ => congrArg (· * _) (Finset.sum_congr rfl fun k _ => ?_))
  refine congrArg₂ (· * ·) ?_
    (congrArg₂ Ideal.div (weight_at V0 b n k) (Finset.sum_congr rfl fun k' _ => weight_at V0 b n k'))
  refine (congrArg (fun c => Scalar.select c _ _) (fold_one _ b n k)).trans ?_
  rw [gather_at _ _ b x n k (near V0 b n k) (index_at V0 b n k), index_at]
  have := (near V0 b n k).isLt
  generalize hq : (near V0 b n k).val = q at this ⊢
  have h1 : IntOp.cmpi .sge (BitVec.ofNat 32 q) 0#32 = 1#1 := by
    simp [IntOp.cmpi, BitVec.sle, word_toInt q this]
  have h2 : IntOp.cmpi .sle (BitVec.ofNat 32 q) 2047#32 = 1#1 := by
    have hz : (q : ℤ) ≤ 2047 := by omega
    simp [IntOp.cmpi, BitVec.sle, word_toInt q this, hz]
  rw [h1, h2]
  rfl

/-- The mean of feature `o` over the batch and the points. -/
def mean (o : Fin 64) : EReal :=
  Ideal.div (∑ b : Fin 4, ∑ n : Fin 8192, feat V0 (ix3 b o n)) (Ideal.ofBits .f32 0x47000000#32)

theorem centred_at (b : Fin 4) (o : Fin 64) (n : Fin 8192) :
    cent V0 (ix3 b o n) = feat V0 (ix3 b o n) - mean V0 o := by
  have h : cent V0 (ix3 b o n) = feat V0 (ix3 b o n)
      - Ideal.div (Ideal.hostReduceAdd reducesTo_S4x64x8192_S64_d0_2 (feat V0) 0 (ix1 o)) (Ideal.ofBits .f32 0x47000000#32) := by
    pointwise [cent, res_main_call1_v5]
  rw [h, sum_outer]
  rfl

theorem count_eq : cnt V0 ix0 = ((32768 : ℝ) : EReal) := by
  have h : cnt V0 ix0 = (Ideal.ofBits .f32 0x47000000#32 : EReal) - FloatOps.sitofp (F := Ideal) .f32 0#32 := by
    pointwise [cnt, res_main_call1_v8]
  have z : (FloatOps.sitofp (F := Ideal) .f32 0#32 : EReal) = ((0 : ℝ) : EReal) := by
    show (((0#32 : BitVec 32).toInt : ℝ) : EReal) = _
    simp
  rw [h, z, word_count, ← EReal.coe_sub, sub_zero]

/-- The variance of feature `o`. -/
def variance (o : Fin 64) : EReal :=
  Ideal.div (∑ b : Fin 4, ∑ n : Fin 8192, (feat V0 (ix3 b o n) - mean V0 o)
    * (feat V0 (ix3 b o n) - mean V0 o)) ((32768 : ℝ) : EReal)

/-- The normalised feature. -/
theorem norm_at (b : Fin 4) (o : Fin 64) (n : Fin 8192) :
    nrm V0 (ix3 b o n)
      = Ideal.div (a5 V0 (ix1 o) * (feat V0 (ix3 b o n) - mean V0 o))
          (Ideal.sqrt (variance V0 o + Ideal.ofBits .f32 0x3727C5AC#32)) + a6 V0 (ix1 o) := by
  have h : nrm V0 (ix3 b o n) = Ideal.div (a5 V0 (ix1 o) * (feat V0 (ix3 b o n)
      - Ideal.div (Ideal.hostReduceAdd reducesTo_S4x64x8192_S64_d0_2 (feat V0) 0 (ix1 o)) (Ideal.ofBits .f32 0x47000000#32)))
      (Ideal.sqrt ((if 0 < cnt V0 ix0 then
          Ideal.div (Ideal.hostReduceAdd reducesTo_S4x64x8192_S64_d0_2 (mulf (cent V0) (cent V0)) 0 (ix1 o))
            (cnt V0 ix0)
          else id (constant (F := Ideal) S_ .f32 0x7FC00000#32) ix0) + Ideal.ofBits .f32 0x3727C5AC#32)) + a6 V0 (ix1 o) := by
    pointwise [nrm, res_main_v50]
  have hs : Ideal.hostReduceAdd reducesTo_S4x64x8192_S64_d0_2 (mulf (cent V0) (cent V0)) 0 (ix1 o)
      = ∑ b : Fin 4, ∑ n : Fin 8192, (feat V0 (ix3 b o n) - mean V0 o)
        * (feat V0 (ix3 b o n) - mean V0 o) := by
    rw [sum_outer]
    refine Finset.sum_congr rfl fun b _ => Finset.sum_congr rfl fun n _ => ?_
    exact congrArg₂ (· * ·) (centred_at V0 b o n) (centred_at V0 b o n)
  have hc : (0 : EReal) < ((32768 : ℝ) : EReal) := by exact_mod_cast (by norm_num : (0 : ℝ) < 32768)
  rw [h, hs, count_eq, if_pos hc, sum_outer]
  rfl

end Cert.ReferenceIdeal.Hand

end
-- ==== Proof.Precond.lean ====
/- What the precondition says of the arguments: every entry of the first six is a real number, and the four greatest
   negated squared distances of every dense point are strictly decreasing. -/
module

public import proofs.«01_k».proof.Pre_well_posed
public import proofs.«01_k».proof.Proof.TopThree
public import Idealize.ShloMosaic.Lib.ReduceAll
public import Idealize.ShloMosaic.Lib.Pointwise

@[expose] public section

set_option maxRecDepth 16384

noncomputable section

namespace Cert.Hand

open Idealize.ShloMosaic Cert.Pre_well_posed

/-- The shape facts the precondition states. -/
theorem pre_facts : Cert.Pre_well_posed.Facts where
  bcast_S_S4x3x8192 := by decide
  reducesTo_S4x3x8192_S_d0_1_2 := by decide
  h_S_ := by decide
  bcast_S_S4x3x2048 := by decide
  reducesTo_S4x3x2048_S_d0_1_2 := by decide
  bcast_S_S4x64x8192 := by decide
  reducesTo_S4x64x8192_S_d0_1_2 := by decide
  bcast_S_S4x128x2048 := by decide
  reducesTo_S4x128x2048_S_d0_1_2 := by decide
  bcast_S_S64x192 := by decide
  reducesTo_S64x192_S_d0_1 := by decide
  bcast_S_S64 := by decide
  reducesTo_S64_S_d0 := by decide
  reducesTo_S4x3x8192_S4x8192_d1 := by decide
  bcast_S4x8192_S4x8192x1_0_1 := by decide
  reducesTo_S4x3x2048_S4x2048_d1 := by decide
  bcast_S4x2048_S4x1x2048_0_2 := by decide
  bcast_S4x8192x1_S4x8192x2048_0_1_2 := by decide
  bcast_S4x1x2048_S4x8192x2048_0_1_2 := by decide
  bcast_S_S4x8192x2048 := by decide
  sliceFits_S4x8192x2048_S4x8192x4 := by decide
  slices_S4x8192x4_S4x8192x3_0_0_0 := by decide
  slices_S4x8192x4_S4x8192x3_0_0_1 := by decide
  reducesTo_S4x8192x3_S_d0_1_2 := by decide
  dot_S4x3x8192_S4x3x2048_S4x8192x2048_1_1_2_2_0_0_wf := by decide

/-- Every entry is a real number. -/
def Real' {s : Shape} (x : FVec Ideal s .f32) : Prop := ∀ i, ∃ r : ℝ, x i = (r : EReal)

theorem real_of_lt {x : EReal} (h : max x (-x) < ⊤) : ∃ r : ℝ, x = (r : EReal) := by
  rw [max_lt_iff] at h
  refine ⟨x.toReal, (EReal.coe_toReal h.1.ne fun e => ?_).symm⟩
  rw [e] at h
  exact absurd h.2 (by simp)

theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
      (constantI S_ 1 1#1) hr hu ix0 = 1#1) : Real' x := by
  intro i
  haveI : Subsingleton S_.Idx := ⟨fun a b => funext fun k => k.elim0⟩
  have h := Host.reduce_andi_all _ _ hr hu ix0 e i
  have h' : BitVec.ofBool (decide (max (x i) (-(x i)) < Ideal.ofBits .f32 0x7F800000#32)) = 1#1 := h
  rw [word_inf] at h'
  refine real_of_lt ?_
  by_contra hc
  rw [decide_eq_false hc] at h'
  exact absurd h' (by decide)

/-- The negated squared distances of the dense points `x0` from the sparse points `x1`. -/
def dist [Facts] (x0 : FVec Ideal S4x3x8192 .f32) (x1 : FVec Ideal S4x3x2048 .f32) : FVec Ideal S4x8192x2048 .f32 :=
  Host.negf (subf (addf
    (broadcastInDim S4x8192x2048 ![0, 1, 2] Facts.bcast_S4x8192x1_S4x8192x2048_0_1_2
      (broadcastInDim S4x8192x1 ![0, 1] Facts.bcast_S4x8192_S4x8192x1_0_1
        (Host.reduceAdd (mulf x0 x0) (constant S_ .f32 0x00000000#32) Facts.reducesTo_S4x3x8192_S4x8192_d1 Facts.h_S_)))
    (broadcastInDim S4x8192x2048 ![0, 1, 2] Facts.bcast_S4x1x2048_S4x8192x2048_0_1_2
      (broadcastInDim S4x1x2048 ![0, 2] Facts.bcast_S4x2048_S4x1x2048_0_2
        (Host.reduceAdd (mulf x1 x1) (constant S_ .f32 0x00000000#32) Facts.reducesTo_S4x3x2048_S4x2048_d1 Facts.h_S_))))
    (mulf (broadcastInDim S4x8192x2048 ![] Facts.bcast_S_S4x8192x2048 (constant S_ .f32 0x40000000#32))
      (Host.dotGeneral dot_S4x3x8192_S4x3x2048_S4x8192x2048_1_1_2_2_0_0 none x0 x1)))

theorem slice_shift {α : Type} (A : T4.Idx → α) (q : ℕ) (h : T4.Slices ![0, 0, q] T3) (b : Fin 4) (n : Fin 8192) (k : Fin 3)
    (hq : q + k.val < 4) : extractStridedSlice T3 ![0, 0, q] A h (ix3 b n k) = A (ix3 b n ⟨q + k.val, hq⟩) := by
  refine congrArg A ?_
  funext a; apply Fin.ext
  match a with
  | ⟨0, _⟩ => exact Nat.zero_add _
  | ⟨1, _⟩ => exact Nat.zero_add _
  | ⟨2, _⟩ => rfl

/-- What the precondition says. -/
structure Good [Facts] (x0 : FVec Ideal S4x3x8192 .f32) (x1 : FVec Ideal S4x3x2048 .f32) (x2 : FVec Ideal S4x64x8192 .f32)
    (x3 : FVec Ideal S4x128x2048 .f32) (x4 : FVec Ideal S64x192 .f32) (x5 : FVec Ideal S64 .f32) : Prop where
  real0 : Real' x0
  real1 : Real' x1
  real2 : Real' x2
  real3 : Real' x3
  real4 : Real' x4
  real5 : Real' x5
  gap : ∀ (b : Fin 4) (n : Fin 8192) (k : Fin 3),
    dist x0 x1 (ix3 b n (place (dist x0 x1) b n ⟨1 + k.val, by omega⟩))
      < dist x0 x1 (ix3 b n (place (dist x0 x1) b n ⟨0 + k.val, by omega⟩))

theorem good_of_pre [Facts] (x0 : FVec Ideal S4x3x8192 .f32) (x1 : FVec Ideal S4x3x2048 .f32) (x2 : FVec Ideal S4x64x8192 .f32)
    (x3 : FVec Ideal S4x128x2048 .f32) (x4 : FVec Ideal S64x192 .f32) (x5 x6 : FVec Ideal S64 .f32)
    (h : fn (F := Ideal) x0 x1 x2 x3 x4 x5 x6 = fun _ => 1#1) : Good x0 x1 x2 x3 x4 x5 := by
  have e := congrFun h ix0
  unfold fn fn_part1 fn_part2 at e
  obtain ⟨e, eg⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨-, e0⟩ := IntOp.andi_eq_one.1 e
  refine ⟨real_of_all x0 _ _ _ e0, real_of_all x1 _ _ _ e1, real_of_all x2 _ _ _ e2, real_of_all x3 _ _ _ e3,
    real_of_all x4 _ _ _ e4, real_of_all x5 _ _ _ e5, fun b n k => ?_⟩
  haveI : Subsingleton S_.Idx := ⟨fun a b => funext fun k => k.elim0⟩
  have g := Host.reduce_andi_all _ _ _ _ ix0 eg (ix3 b n k)
  have g' : BitVec.ofBool (decide (
      extractStridedSlice S4x8192x3 ![0, 0, 1] (Host.topK S4x8192x4 2 (FloatOps.cmpfTotal (F := Ideal) (φ := .f32) .gt) (dist x0 x1)
        Facts.sliceFits_S4x8192x2048_S4x8192x4).1 Facts.slices_S4x8192x4_S4x8192x3_0_0_1 (ix3 b n k)
      < extractStridedSlice S4x8192x3 ![0, 0, 0] (Host.topK S4x8192x4 2 (FloatOps.cmpfTotal (F := Ideal) (φ := .f32) .gt) (dist x0 x1)
        Facts.sliceFits_S4x8192x2048_S4x8192x4).1 Facts.slices_S4x8192x4_S4x8192x3_0_0_0 (ix3 b n k))) = 1#1 := g
  rw [slice_shift _ 1 _ b n k (by omega), slice_shift _ 0 _ b n k (by omega), top4_value, top4_value] at g'
  by_contra hc
  rw [decide_eq_false hc] at g'
  exact absurd g' (by decide)

end Cert.Hand

end
-- ==== Proof.Equal.lean ====
/- The kernel's first result is the reference's, entry by entry, where the precondition holds. -/
module

public import proofs.«01_k».proof.Proof.RealMaths
public import proofs.«01_k».proof.Proof.RefValue
public import proofs.«01_k».proof.Proof.Precond

@[expose] public section

set_option maxRecDepth 16384

noncomputable section

namespace Cert.Hand

open Idealize.ShloMosaic Idealize.ShloMosaic.TcCoe Cert.KernelIdeal.Hand Cert.ReferenceIdeal.Hand

attribute [local instance] pre_facts

variable (V0 : Valuation Cert.ReferenceIdeal.τ Cert.ReferenceIdeal.sig (Elt Ideal))

/-- The precondition, of the reference's arguments. -/
abbrev GoodRef : Prop := Good (a0 V0) (a1 V0) (a2 V0) (a3 V0) (a4 V0) (a5 V0)

/-- The same arguments on both sides. -/
structure Same (m : (ℓ : Loc Cert.KernelIdeal.nD Cert.KernelIdeal.τ Cert.KernelIdeal.sig) → Buf (Elt Ideal) ℓ)
    (c : Dev Cert.KernelIdeal.nD) : Prop where
  eA : argA m c = a0 V0
  eB : argB m c = a1 V0
  eC : argC m c = a2 V0
  eD : argD m c = a3 V0
  eE : argE m c = a4 V0
  eG : argG m c = a5 V0
  eH : argH m c = a6 V0

section dist
variable {V0}

/-- The order of the kernel's partial squared distances is the reference's order of negated ones, turned around. -/
theorem nearest_ref (G : GoodRef V0) (b : Fin 4) (n : Fin 8192) (P : Fin 2048 → ℝ) (d : ℝ)
    (h : ∀ s, negd V0 (ix3 b n s) = ((-(P s + d) : ℝ) : EReal)) :
    Nearest (fun s => ((P s : ℝ) : EReal)) (near V0 b n 0) (near V0 b n 1) (near V0 b n 2) := by
  refine nearest_of_sorted (fun s => negd V0 (ix3 b n s)) _ (fun s s' => ?_) (G.gap b n 0) (G.gap b n 1) (G.gap b n 2)
  show ((P s : ℝ) : EReal) < ((P s' : ℝ) : EReal) ↔ negd V0 (ix3 b n s') < negd V0 (ix3 b n s)
  rw [h, h, EReal.coe_lt_coe_iff, EReal.coe_lt_coe_iff]
  constructor <;> intro _ <;> linarith

end dist

variable {V0} {m : (ℓ : Loc Cert.KernelIdeal.nD Cert.KernelIdeal.τ Cert.KernelIdeal.sig) → Buf (Elt Ideal) ℓ}
  {c : Dev Cert.KernelIdeal.nD}

/-- Both sides hold the same real number before the normalisation. -/
theorem feat_agree (G : GoodRef V0) (E : Same V0 m c) (b : Fin 4) (o : Fin 64) (n : Fin 8192) :
    ∃ y : ℝ, rawAt m c b o n = (y : EReal) ∧ feat V0 (ix3 b o n) = (y : EReal) := by
  choose u hu using G.real0
  choose w hw using G.real1
  choose A hA using G.real2
  choose X hX using G.real3
  choose W hW using G.real4
  let P : Fin 2048 → ℝ := fun s => ∑ k : Fin 3, w (ix3 b k s) * w (ix3 b k s) + ∑ k : Fin 3, w (ix3 b k s) * (u (ix3 b k n) * (-2))
  let d : ℝ := ∑ k : Fin 3, u (ix3 b k n) * u (ix3 b k n)
  have hd : kdsq (argA m c) b n = (d : EReal) := by
    unfold kdsq
    rw [coe_sum, E.eA]
    exact Finset.sum_congr rfl fun k _ => by rw [hu, EReal.coe_mul]
  have hP : kpart (argA m c) (argB' m c) b n = fun s => ((P s : ℝ) : EReal) := by
    funext s
    unfold kpart
    rw [EReal.coe_add, coe_sum, coe_sum, word_neg_two, E.eA]
    refine congrArg₂ _ (Finset.sum_congr rfl fun k _ => ?_) (Finset.sum_congr rfl fun k _ => ?_)
    · rw [argB'_at, E.eB, hw, EReal.coe_mul]
    · rw [argB'_at, E.eB, hw, hu, EReal.coe_mul, EReal.coe_mul]
  have hn : ∀ s, negd V0 (ix3 b n s) = ((-(P s + d) : ℝ) : EReal) := fun s => by
    rw [negd_at, word_two]
    simp only [hu, hw, ← EReal.coe_mul, ← coe_sum, ← EReal.coe_add, ← EReal.coe_sub, ← EReal.coe_neg]
    refine congrArg _ ?_
    simp only [P, d, Fin.sum_univ_three]
    ring
  obtain ⟨y, h1, h2⟩ := feat_real (fun k => W (ix2 o ⟨k.val, by omega⟩)) (fun k => A (ix3 b k n))
    (fun k => W (ix2 o ⟨64 + k.val, by omega⟩)) (fun k s => X (ix3 b k s)) P d (near V0 b n) (nearest_ref G b n P d hn)
  refine ⟨y, Eq.trans ?_ h1, Eq.trans ?_ h2⟩
  · unfold rawAt kfeat
    rw [hP, hd, E.eC, E.eD, E.eE]
    simp only [hA, hX, hW]
  · rw [feat_at]
    simp only [hn, ← EReal.coe_neg, neg_neg, hA, hX, hW]

/-- The normalised values agree. -/
theorem norm_agree (G : GoodRef V0) (E : Same V0 m c) (b : Fin 4) (o : Fin 64) (n : Fin 8192) :
    bn (rawAt m c b o n) (Ideal.ofBits .f32 0x47000000#32) (∑ b : Fin 4, ∑ n : Fin 8192, rawAt m c b o n)
        (∑ b : Fin 4, ∑ n : Fin 8192, rawAt m c b o n * rawAt m c b o n) (argG m c (ix1 o)) (argH m c (ix1 o))
      = nrm V0 (ix3 b o n) := by
  choose y h1 h2 using fun b n => feat_agree G E b o n
  obtain ⟨g, hg⟩ := G.real5 (ix1 o)
  have hμ : mean V0 o = Ideal.div (∑ b, ∑ n, (y b n : EReal)) (Ideal.ofBits .f32 0x47000000#32) := by
    unfold mean
    simp only [h2]
  have hv : variance V0 o = Ideal.div (∑ b, ∑ n, ((y b n : EReal) - mean V0 o) * ((y b n : EReal) - mean V0 o)) ((32768 : ℝ) : EReal) := by
    unfold variance
    simp only [h2]
  have hB := bn_real y g (a6 V0 (ix1 o)) b n _ _ hμ hv
  rw [norm_at, hg, h2, E.eG, E.eH, hg]
  simp only [h1]
  exact hB

end Cert.Hand

end
-- ==== Proof.Agree.lean ====
/- The value claim: where the precondition holds, the kernel's run and the reference's end with the same two results. -/
module

public import proofs.«01_k».proof.Defs
public import proofs.«01_k».proof.Proof.Equal

@[expose] public section

set_option maxRecDepth 16384

noncomputable section

namespace Cert.Hand

open Idealize.ShloMosaic Idealize.ShloMosaic.TcCoe Idealize.SL.Sem

/-- The reference's first result at an entry. -/
theorem ref_out_at (V : Valuation Cert.ReferenceIdeal.τ Cert.ReferenceIdeal.sig (Elt Ideal)) (b : Fin 4) (o : Fin 64) (n : Fin 8192) :
    select (cmpf .ogt (Cert.ReferenceIdeal.Hand.nrm V)
        (broadcastInDim Cert.ReferenceIdeal.S4x64x8192 ![] Cert.ReferenceIdeal.Gen.bcast_S_S4x64x8192
          (constant (F := Ideal) Cert.ReferenceIdeal.S_ .f32 0x00000000#32)))
        (Cert.ReferenceIdeal.Hand.nrm V)
        (mulf (broadcastInDim Cert.ReferenceIdeal.S4x64x8192 ![] Cert.ReferenceIdeal.Gen.bcast_S_S4x64x8192
          (constant (F := Ideal) Cert.ReferenceIdeal.S_ .f32 0x3E4CCCCD#32)) (Cert.ReferenceIdeal.Hand.nrm V)) (ix3 b o n)
      = Cert.KernelIdeal.Hand.leak (Cert.ReferenceIdeal.Hand.nrm V (ix3 b o n)) := by
  generalize Cert.ReferenceIdeal.Hand.nrm V = x
  pointwise [Cert.KernelIdeal.Hand.leak]

/-- Where the precondition holds the kernel's two results are the reference's. -/
theorem agree : @Cert.algebraic_KernelIdeal_ReferenceIdeal_pre_well_posed Cert.KernelIdeal.Gen.facts Cert.ReferenceIdeal.Gen.facts
    Cert.Hand.pre_facts := by
  intro m g m' g' hp he
  have E : ∀ c, Cert.Hand.Same (StableHlo.launchContents m' c) m c := fun c =>
    ⟨(he c).1.symm, (he c).2.1.symm, (he c).2.2.1.symm, (he c).2.2.2.1.symm, (he c).2.2.2.2.1.symm, (he c).2.2.2.2.2.1.symm,
      (he c).2.2.2.2.2.2.symm⟩
  have G : ∀ c, Cert.Hand.GoodRef (StableHlo.launchContents m' c) := fun c => by
    have h := @Cert.Hand.good_of_pre Cert.Hand.pre_facts _ _ _ _ _ _ _ (hp c)
    have e := E c
    unfold Cert.Hand.GoodRef
    rw [← e.eA, ← e.eB, ← e.eC, ← e.eD, ← e.eE, ← e.eG]
    exact h
  refine ⟨fun c => Cert.KernelIdeal.Hand.W4 m g c (Proc.devRef .tc Cert.KernelIdeal.main_v5),
    fun c => m ((c.tc : Thread Cert.KernelIdeal.nD Cert.KernelIdeal.τ).loc Cert.KernelIdeal.main_arg0), ?_, ?_⟩
  · exact (θ_run Cert.KernelIdeal.defs _ _).mono
      (fun r h c => ⟨h.1 c Cert.KernelIdeal.main_v5 (by decide), (Cert.KernelIdeal.Hand.args_kept m g c (h.1 c)).1,
        Cert.KernelIdeal.Hand.args_kept m g c (h.1 c)⟩) (Cert.KernelIdeal.Hand.run_all m g)
  · refine (θ_run Cert.ReferenceIdeal.defs _ _).mono (fun r h c => ⟨(h c).1.trans ?_, (h c).2.1.trans (he c).1, (h c).2.2⟩)
      (Cert.ReferenceIdeal.Value.run (F := Ideal) m' g')
    funext i
    obtain ⟨b, o, n, rfl⟩ : ∃ (b : Fin 4) (o : Fin 64) (n : Fin 8192), i = (ix3 b o n : Cert.ReferenceIdeal.S4x64x8192.Idx) :=
      ⟨i 0, i 1, i 2, by funext a; match a with | ⟨0, _⟩ => rfl | ⟨1, _⟩ => rfl | ⟨2, _⟩ => rfl⟩
    refine (ref_out_at (StableHlo.launchContents m' c) b o n).trans ?_
    rw [← Cert.Hand.norm_agree (G c) (E c) b o n]
    exact (Cert.KernelIdeal.Hand.out_at m g c b o n).symm

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem

/-- The reference runs, leaves its arguments unchanged and ends with every counter at zero: it declares none. -/
theorem quiet_Reference : @Cert.quiescent_ReferenceIdeal Cert.ReferenceIdeal.Gen.facts := by
  intro m g _
  exact (θ_run Cert.ReferenceIdeal.defs _ _).mono
    (fun r h => ⟨fun c => (h c).2.2, sem_eq_zero_of_no_sems (by decide) r.2⟩)
    (Cert.ReferenceIdeal.Value.run (F := Ideal) m g)

theorem claim : Cert.Claim :=
  ⟨Cert.Kernel.Gen.facts, Cert.KernelIdeal.Gen.facts, Cert.ReferenceIdeal.Gen.facts, Cert.Hand.pre_facts,
    Cert.Hand.quiet_Kernel, fun m g _ => Cert.KernelIdeal.Hand.quiet m g, fun m g _ => Cert.KernelIdeal.Hand.quiet m g,
    quiet_Reference, fun m g _ => quiet_Reference m g trivial, trivial, Cert.Hand.agree⟩

end Cert.Proof

end
